-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S50000x50 : Shape := ⟨2, ![50000, 50]⟩
abbrev S50000x128 : Shape := ⟨2, ![50000, 128]⟩
abbrev S50000x31x50 : Shape := ⟨3, ![50000, 31, 50]⟩
abbrev S50000x32 : Shape := ⟨2, ![50000, 32]⟩
abbrev S50x128 : Shape := ⟨2, ![50, 128]⟩
abbrev S50 : Shape := ⟨1, ![50]⟩
abbrev S50x50x50 : Shape := ⟨3, ![50, 50, 50]⟩
abbrev S50x50 : Shape := ⟨2, ![50, 50]⟩
abbrev S1x50 : Shape := ⟨2, ![1, 50]⟩
abbrev S1 : Shape := ⟨1, ![1]⟩
abbrev S_ : Shape := ⟨0, ![]⟩

class Facts : Prop where
  bcast_S_S50000x50 : S_.BroadcastsInDim S50000x50 (![] : Fin 0 → Fin S50000x50.rank)
  bcast_S_S50000x128 : S_.BroadcastsInDim S50000x128 (![] : Fin 0 → Fin S50000x128.rank)
  bcast_S_S50000x31x50 : S_.BroadcastsInDim S50000x31x50 (![] : Fin 0 → Fin S50000x31x50.rank)
  bcast_S_S50000x32 : S_.BroadcastsInDim S50000x32 (![] : Fin 0 → Fin S50000x32.rank)
  bcast_S_S50x128 : S_.BroadcastsInDim S50x128 (![] : Fin 0 → Fin S50x128.rank)
  bcast_S_S50 : S_.BroadcastsInDim S50 (![] : Fin 0 → Fin S50.rank)
  bcast_S_S50x50x50 : S_.BroadcastsInDim S50x50x50 (![] : Fin 0 → Fin S50x50x50.rank)
  bcast_S_S50x50 : S_.BroadcastsInDim S50x50 (![] : Fin 0 → Fin S50x50.rank)

variable [Facts]

def fn_part1 {F : FTy → Type} [FloatOps F] (main_arg6 : FVec F S50x50x50 .f32) (main_arg8 : FVec F S50x50 .f32) (main_v2 : IVec S50000x50 1) (main_v5 : IVec S50000x128 1) (main_v8 : IVec S50000x31x50 1) (main_v11 : IVec S50000x32 1) (main_v14 : IVec S50x128 1) (main_v17 : IVec S50 1) : IVec S50000x50 1 × IVec S50000x128 1 × IVec S50000x31x50 1 × IVec S50000x32 1 × IVec S50x128 1 × IVec S50 1 × IVec S50x50x50 1 × IVec S50x50 1 :=
  let main_v18 : FVec F S50x50x50 .f32 := Host.absf main_arg6
  let main_cst_5 : FVec F S_ .f32 := constant S_ .f32 0x7F800000#32
  let main_v19 : FVec F S50x50x50 .f32 := broadcastInDim S50x50x50 ![] bcast_S_S50x50x50 main_cst_5
  let main_v20 : IVec S50x50x50 1 := cmpf .olt main_v18 main_v19
  let main_v21 : FVec F S50x50 .f32 := Host.absf main_arg8
  let main_cst_6 : FVec F S_ .f32 := constant S_ .f32 0x7F800000#32
  let main_v22 : FVec F S50x50 .f32 := broadcastInDim S50x50 ![] bcast_S_S50x50 main_cst_6
  let main_v23 : IVec S50x50 1 := cmpf .olt main_v21 main_v22
  (main_v2, main_v5, main_v8, main_v11, main_v14, main_v17, main_v20, main_v23)

def fn {F : FTy → Type} [FloatOps F] (main_arg0 : FVec F S50000x50 .f32) (main_arg1 : FVec F S50000x128 .f32) (main_arg2 : FVec F S50000x31x50 .f32) (main_arg3 : FVec F S50000x32 .f32) (main_arg4 : FVec F S50x128 .f32) (main_arg5 : FVec F S50 .f32) (main_arg6 : FVec F S50x50x50 .f32) (main_arg7 : FVec F S50 .f32) (main_arg8 : FVec F S50x50 .f32) (main_arg9 : FVec F S50 .f32) (main_arg10 : FVec F S1x50 .f32) (main_arg11 : FVec F S1 .f32) : IVec S50000x50 1 × IVec S50000x128 1 × IVec S50000x31x50 1 × IVec S50000x32 1 × IVec S50x128 1 × IVec S50 1 × IVec S50x50x50 1 × IVec S50x50 1 :=
  let main_v0 : FVec F S50000x50 .f32 := Host.absf main_arg0
  let main_cst : FVec F S_ .f32 := constant S_ .f32 0x7F800000#32
  let main_v1 : FVec F S50000x50 .f32 := broadcastInDim S50000x50 ![] bcast_S_S50000x50 main_cst
  let main_v2 : IVec S50000x50 1 := cmpf .olt main_v0 main_v1
  let main_v3 : FVec F S50000x128 .f32 := Host.absf main_arg1
  let main_cst_0 : FVec F S_ .f32 := constant S_ .f32 0x7F800000#32
  let main_v4 : FVec F S50000x128 .f32 := broadcastInDim S50000x128 ![] bcast_S_S50000x128 main_cst_0
  let main_v5 : IVec S50000x128 1 := cmpf .olt main_v3 main_v4
  let main_v6 : FVec F S50000x31x50 .f32 := Host.absf main_arg2
  let main_cst_1 : FVec F S_ .f32 := constant S_ .f32 0x7F800000#32
  let main_v7 : FVec F S50000x31x50 .f32 := broadcastInDim S50000x31x50 ![] bcast_S_S50000x31x50 main_cst_1
  let main_v8 : IVec S50000x31x50 1 := cmpf .olt main_v6 main_v7
  let main_v9 : FVec F S50000x32 .f32 := Host.absf main_arg3
  let main_cst_2 : FVec F S_ .f32 := constant S_ .f32 0x7F800000#32
  let main_v10 : FVec F S50000x32 .f32 := broadcastInDim S50000x32 ![] bcast_S_S50000x32 main_cst_2
  let main_v11 : IVec S50000x32 1 := cmpf .olt main_v9 main_v10
  let main_v12 : FVec F S50x128 .f32 := Host.absf main_arg4
  let main_cst_3 : FVec F S_ .f32 := constant S_ .f32 0x7F800000#32
  let main_v13 : FVec F S50x128 .f32 := broadcastInDim S50x128 ![] bcast_S_S50x128 main_cst_3
  let main_v14 : IVec S50x128 1 := cmpf .olt main_v12 main_v13
  let main_v15 : FVec F S50 .f32 := Host.absf main_arg5
  let main_cst_4 : FVec F S_ .f32 := constant S_ .f32 0x7F800000#32
  let main_v16 : FVec F S50 .f32 := broadcastInDim S50 ![] bcast_S_S50 main_cst_4
  let main_v17 : IVec S50 1 := cmpf .olt main_v15 main_v16
  fn_part1 (F := F) main_arg6 main_arg8 main_v2 main_v5 main_v8 main_v11 main_v14 main_v17
-- ==== Kernel.lean ====
abbrev S50000x50 : Shape := ⟨2, ![50000, 50]⟩
abbrev S50000x128 : Shape := ⟨2, ![50000, 128]⟩
abbrev S50000x31x50 : Shape := ⟨3, ![50000, 31, 50]⟩
abbrev S50000x32 : Shape := ⟨2, ![50000, 32]⟩
abbrev S50x128 : Shape := ⟨2, ![50, 128]⟩
abbrev S50 : Shape := ⟨1, ![50]⟩
abbrev S50x50x50 : Shape := ⟨3, ![50, 50, 50]⟩
abbrev S50x50 : Shape := ⟨2, ![50, 50]⟩
abbrev S1x50 : Shape := ⟨2, ![1, 50]⟩
abbrev S1 : Shape := ⟨1, ![1]⟩
abbrev S50x50000 : Shape := ⟨2, ![50, 50000]⟩
abbrev S32x50000 : Shape := ⟨2, ![32, 50000]⟩
abbrev S50x31x50000 : Shape := ⟨3, ![50, 31, 50000]⟩
abbrev S_ : Shape := ⟨0, ![]⟩
abbrev S50x56x50 : Shape := ⟨3, ![50, 56, 50]⟩
abbrev S2800x50 : Shape := ⟨2, ![2800, 50]⟩
abbrev S50x1 : Shape := ⟨2, ![50, 1]⟩
abbrev S50x2 : Shape := ⟨2, ![50, 2]⟩
abbrev S1x1 : Shape := ⟨2, ![1, 1]⟩
abbrev S1x50000 : Shape := ⟨2, ![1, 50000]⟩
abbrev S50000x1 : Shape := ⟨2, ![50000, 1]⟩
abbrev S50x1024 : Shape := ⟨2, ![50, 1024]⟩
abbrev S1024x128 : Shape := ⟨2, ![1024, 128]⟩
abbrev S50x31x1024 : Shape := ⟨3, ![50, 31, 1024]⟩
abbrev S32x1024 : Shape := ⟨2, ![32, 1024]⟩
abbrev S1x1024 : Shape := ⟨2, ![1, 1024]⟩
abbrev S2800x1024 : Shape := ⟨2, ![2800, 1024]⟩
abbrev S31x1024 : Shape := ⟨2, ![31, 1024]⟩
abbrev S1x31x1024 : Shape := ⟨3, ![1, 31, 1024]⟩
abbrev S2x1024 : Shape := ⟨2, ![2, 1024]⟩

abbrev nBuf : Space → Nat
  | .hbm => 33
  | .vmem => 17
  | .smem => 0
  | _ => 0

abbrev bufTy : (tb : Table) → Fin (tcTables nBuf tb) → BufTy
  | .hbm, ⟨0, _⟩ => ⟨S50000x50, .f32⟩
  | .hbm, ⟨1, _⟩ => ⟨S50000x128, .f32⟩
  | .hbm, ⟨2, _⟩ => ⟨S50000x31x50, .f32⟩
  | .hbm, ⟨3, _⟩ => ⟨S50000x32, .f32⟩
  | .hbm, ⟨4, _⟩ => ⟨S50x128, .f32⟩
  | .hbm, ⟨5, _⟩ => ⟨S50, .f32⟩
  | .hbm, ⟨6, _⟩ => ⟨S50x50x50, .f32⟩
  | .hbm, ⟨7, _⟩ => ⟨S50, .f32⟩
  | .hbm, ⟨8, _⟩ => ⟨S50x50, .f32⟩
  | .hbm, ⟨9, _⟩ => ⟨S50, .f32⟩
  | .hbm, ⟨10, _⟩ => ⟨S1x50, .f32⟩
  | .hbm, ⟨11, _⟩ => ⟨S1, .f32⟩
  | .hbm, ⟨12, _⟩ => ⟨S50x50000, .f32⟩
  | .hbm, ⟨13, _⟩ => ⟨S32x50000, .f32⟩
  | .hbm, ⟨14, _⟩ => ⟨S50x31x50000, .f32⟩
  | .hbm, ⟨15, _⟩ => ⟨S50x50x50, .f32⟩
  | .hbm, ⟨16, _⟩ => ⟨S_, .i32⟩
  | .hbm, ⟨17, _⟩ => ⟨S_, .f32⟩
  | .hbm, ⟨18, _⟩ => ⟨S50x56x50, .f32⟩
  | .hbm, ⟨19, _⟩ => ⟨S2800x50, .f32⟩
  | .hbm, ⟨20, _⟩ => ⟨S50, .f32⟩
  | .hbm, ⟨21, _⟩ => ⟨S50x1, .f32⟩
  | .hbm, ⟨22, _⟩ => ⟨S50x1, .f32⟩
  | .hbm, ⟨23, _⟩ => ⟨S50x2, .f32⟩
  | .hbm, ⟨24, _⟩ => ⟨S2800x50, .bf16⟩
  | .hbm, ⟨25, _⟩ => ⟨S50x128, .bf16⟩
  | .hbm, ⟨26, _⟩ => ⟨S50x1, .f32⟩
  | .hbm, ⟨27, _⟩ => ⟨S50x50, .bf16⟩
  | .hbm, ⟨28, _⟩ => ⟨S50x2, .bf16⟩
  | .hbm, ⟨29, _⟩ => ⟨S1x50, .bf16⟩
  | .hbm, ⟨30, _⟩ => ⟨S1x1, .f32⟩
  | .hbm, ⟨31, _⟩ => ⟨S1x50000, .f32⟩
  | .hbm, ⟨32, _⟩ => ⟨S50000x1, .f32⟩
  | .local _ .vmem, ⟨0, _⟩ => ⟨S50x1024, .f32⟩
  | .local _ .vmem, ⟨1, _⟩ => ⟨S50x1024, .f32⟩
  | .local _ .vmem, ⟨2, _⟩ => ⟨S1024x128, .f32⟩
  | .local _ .vmem, ⟨3, _⟩ => ⟨S1024x128, .f32⟩
  | .local _ .vmem, ⟨4, _⟩ => ⟨S50x31x1024, .f32⟩
  | .local _ .vmem, ⟨5, _⟩ => ⟨S50x31x1024, .f32⟩
  | .local _ .vmem, ⟨6, _⟩ => ⟨S32x1024, .f32⟩
  | .local _ .vmem, ⟨7, _⟩ => ⟨S32x1024, .f32⟩
  | .local _ .vmem, ⟨8, _⟩ => ⟨S2800x50, .bf16⟩
  | .local _ .vmem, ⟨9, _⟩ => ⟨S50x128, .bf16⟩
  | .local _ .vmem, ⟨10, _⟩ => ⟨S50x1, .f32⟩
  | .local _ .vmem, ⟨11, _⟩ => ⟨S50x50, .bf16⟩
  | .local _ .vmem, ⟨12, _⟩ => ⟨S50x2, .bf16⟩
  | .local _ .vmem, ⟨13, _⟩ => ⟨S1x50, .bf16⟩
  | .local _ .vmem, ⟨14, _⟩ => ⟨S1x1, .f32⟩
  | .local _ .vmem, ⟨15, _⟩ => ⟨S1x1024, .f32⟩
  | .local _ .vmem, ⟨16, _⟩ => ⟨S1x1024, .f32⟩
  | _, _ => ⟨S50000x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_c : Ref sig .tc := ⟨.hbm, 16, rfl⟩
abbrev main_call0_call0_v0 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_call0_v17 : Ref sig .tc := ⟨.hbm, 31, rfl⟩
abbrev main_v0 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S50x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S50x31x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2800x50 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S50x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S50x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S50x50 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S50x2 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x50 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S50000x50 : Shape := ⟨2, ![50000, 50]⟩
abbrev S50000x128 : Shape := ⟨2, ![50000, 128]⟩
abbrev S50000x31x50 : Shape := ⟨3, ![50000, 31, 50]⟩
abbrev S50000x32 : Shape := ⟨2, ![50000, 32]⟩
abbrev S50x128 : Shape := ⟨2, ![50, 128]⟩
abbrev S50 : Shape := ⟨1, ![50]⟩
abbrev S50x50x50 : Shape := ⟨3, ![50, 50, 50]⟩
abbrev S50x50 : Shape := ⟨2, ![50, 50]⟩
abbrev S1x50 : Shape := ⟨2, ![1, 50]⟩
abbrev S1 : Shape := ⟨1, ![1]⟩
abbrev S128x50 : Shape := ⟨2, ![128, 50]⟩
abbrev S50000x50x50 : Shape := ⟨3, ![50000, 50, 50]⟩
abbrev S50000x1x50 : Shape := ⟨3, ![50000, 1, 50]⟩
abbrev S50000x32x50 : Shape := ⟨3, ![50000, 32, 50]⟩
abbrev S50000x32x1 : Shape := ⟨3, ![50000, 32, 1]⟩
abbrev S_ : Shape := ⟨0, ![]⟩
abbrev S50x1 : Shape := ⟨2, ![50, 1]⟩
abbrev S50000x1 : Shape := ⟨2, ![50000, 1]⟩
abbrev S1x1 : Shape := ⟨2, ![1, 1]⟩

abbrev nBuf : Space → Nat
  | .hbm => 53
  | .vmem => 0
  | .smem => 0
  | _ => 0

abbrev bufTy : (tb : Table) → Fin (tcTables nBuf tb) → BufTy
  | .hbm, ⟨0, _⟩ => ⟨S50000x50, .f32⟩
  | .hbm, ⟨1, _⟩ => ⟨S50000x128, .f32⟩
  | .hbm, ⟨2, _⟩ => ⟨S50000x31x50, .f32⟩
  | .hbm, ⟨3, _⟩ => ⟨S50000x32, .f32⟩
  | .hbm, ⟨4, _⟩ => ⟨S50x128, .f32⟩
  | .hbm, ⟨5, _⟩ => ⟨S50, .f32⟩
  | .hbm, ⟨6, _⟩ => ⟨S50x50x50, .f32⟩
  | .hbm, ⟨7, _⟩ => ⟨S50, .f32⟩
  | .hbm, ⟨8, _⟩ => ⟨S50x50, .f32⟩
  | .hbm, ⟨9, _⟩ => ⟨S50, .f32⟩
  | .hbm, ⟨10, _⟩ => ⟨S1x50, .f32⟩
  | .hbm, ⟨11, _⟩ => ⟨S1, .f32⟩
  | .hbm, ⟨12, _⟩ => ⟨S128x50, .f32⟩
  | .hbm, ⟨13, _⟩ => ⟨S50000x50, .f32⟩
  | .hbm, ⟨14, _⟩ => ⟨S1x50, .f32⟩
  | .hbm, ⟨15, _⟩ => ⟨S50000x50, .f32⟩
  | .hbm, ⟨16, _⟩ => ⟨S50000x50, .f32⟩
  | .hbm, ⟨17, _⟩ => ⟨S50000x50x50, .f32⟩
  | .hbm, ⟨18, _⟩ => ⟨S50000x50, .f32⟩
  | .hbm, ⟨19, _⟩ => ⟨S1x50, .f32⟩
  | .hbm, ⟨20, _⟩ => ⟨S50000x50, .f32⟩
  | .hbm, ⟨21, _⟩ => ⟨S50000x50, .f32⟩
  | .hbm, ⟨22, _⟩ => ⟨S50000x1x50, .f32⟩
  | .hbm, ⟨23, _⟩ => ⟨S50000x32x50, .f32⟩
  | .hbm, ⟨24, _⟩ => ⟨S50000x32x50, .f32⟩
  | .hbm, ⟨25, _⟩ => ⟨S50000x32x1, .f32⟩
  | .hbm, ⟨26, _⟩ => ⟨S50000x32x50, .f32⟩
  | .hbm, ⟨27, _⟩ => ⟨S50000x32x50, .f32⟩
  | .hbm, ⟨28, _⟩ => ⟨S_, .f32⟩
  | .hbm, ⟨29, _⟩ => ⟨S50000x50, .f32⟩
  | .hbm, ⟨30, _⟩ => ⟨S1x50, .f32⟩
  | .hbm, ⟨31, _⟩ => ⟨S50000x50, .f32⟩
  | .hbm, ⟨32, _⟩ => ⟨S50000x50, .f32⟩
  | .hbm, ⟨33, _⟩ => ⟨S_, .f32⟩
  | .hbm, ⟨34, _⟩ => ⟨S50000x50, .f32⟩
  | .hbm, ⟨35, _⟩ => ⟨S50000x50, .i1⟩
  | .hbm, ⟨36, _⟩ => ⟨S_, .f32⟩
  | .hbm, ⟨37, _⟩ => ⟨S50000x50, .f32⟩
  | .hbm, ⟨38, _⟩ => ⟨S50000x50, .i1⟩
  | .hbm, ⟨39, _⟩ => ⟨S_, .f32⟩
  | .hbm, ⟨40, _⟩ => ⟨S_, .f32⟩
  | .hbm, ⟨41, _⟩ => ⟨S50000x50, .f32⟩
  | .hbm, ⟨42, _⟩ => ⟨S50000x50, .f32⟩
  | .hbm, ⟨43, _⟩ => ⟨S50000x50, .f32⟩
  | .hbm, ⟨44, _⟩ => ⟨S_, .f32⟩
  | .hbm, ⟨45, _⟩ => ⟨S50000x50, .f32⟩
  | .hbm, ⟨46, _⟩ => ⟨S50000x50, .f32⟩
  | .hbm, ⟨47, _⟩ => ⟨S50000x50, .f32⟩
  | .hbm, ⟨48, _⟩ => ⟨S50x1, .f32⟩
  | .hbm, ⟨49, _⟩ => ⟨S50000x1, .f32⟩
  | .hbm, ⟨50, _⟩ => ⟨S1x1, .f32⟩
  | .hbm, ⟨51, _⟩ => ⟨S50000x1, .f32⟩
  | .hbm, ⟨52, _⟩ => ⟨S50000x1, .f32⟩
  | _, _ => ⟨S50000x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_cst_0 : Ref sig .tc := ⟨.hbm, 36, rfl⟩
abbrev main_call0_v2 : Ref sig .tc := ⟨.hbm, 37, rfl⟩
abbrev main_call0_v3 : Ref sig .tc := ⟨.hbm, 38, rfl⟩
abbrev main_call0_cst_1 : Ref sig .tc := ⟨.hbm, 39, rfl⟩
abbrev main_call0_call0_v0 : Ref sig .tc := ⟨.hbm, 40, rfl⟩
abbrev main_call0_call0_v1 : Ref sig .tc := ⟨.hbm, 41, rfl⟩
abbrev main_call0_v4 : Ref sig .tc := ⟨.hbm, 42, rfl⟩
abbrev main_call0_v5 : Ref sig .tc := ⟨.hbm, 43, rfl⟩
abbrev main_call0_cst_2 : Ref sig .tc := ⟨.hbm, 44, rfl⟩
abbrev main_call0_v6 : Ref sig .tc := ⟨.hbm, 45, rfl⟩
abbrev main_call0_v7 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩

abbrev nD : Nat := 1
abbrev τ : Topo := Topo.v7x

variable {F : FTy → Type} [FloatOps F]
-- ==== Proof.KernelFrame.lean ====
/-
  The frame of `Kernel` (untrusted, hand-written): every execution ends, with the arguments as they were and every counter at zero.
  Nothing is said of the result's contents, so its window is left unnamed.
-/
module

public import proofs.«01_k».proof.Proof.KernelBody

@[expose] public section

set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Input block 0 at point `t`, its lanes past the array's end filled with anything. -/
def fb0 (c : Dev nD) (t : Fin cfg0.N) : Vec F S50x1024 .f32 :=
  win0_0.fill (grid0.coords t) (View.canon (Val := Elt F) []) (iblk m c 0 t)

/-- Input block 1 at point `t`, its lanes past the array's end filled with anything. -/
def fb1 (c : Dev nD) (t : Fin cfg0.N) : Vec F S1024x128 .f32 :=
  win0_1.fill (grid0.coords t) (View.canon (Val := Elt F) []) (iblk m c 1 t)

/-- Input block 2 at point `t`, its lanes past the array's end filled with anything. -/
def fb2 (c : Dev nD) (t : Fin cfg0.N) : Vec F S50x31x1024 .f32 :=
  win0_2.fill (grid0.coords t) (View.canon (Val := Elt F) []) (iblk m c 2 t)

/-- Input block 3 at point `t`, its lanes past the array's end filled with anything. -/
def fb3 (c : Dev nD) (t : Fin cfg0.N) : Vec F S32x1024 .f32 :=
  win0_3.fill (grid0.coords t) (View.canon (Val := Elt F) []) (iblk m c 3 t)

/-- The proof data: the arrays as the region finds them, each input block left in place. -/
def dats (_ : Fin 1) (c : Dev nD) : Dat τ (Elt F) Unit ℕ (UR sig nD τ) ℕ cfg0 c where
  A w := V m c (Pipeline.arrRef spec0 w)
  after w t := match w with
    | ⟨0, _⟩ => fb0 m c t
    | ⟨1, _⟩ => fb1 m c t
    | ⟨2, _⟩ => fb2 m c t
    | ⟨3, _⟩ => fb3 m c t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => View.canon (Val := Elt F) []
  Φ _ := Pipeline.ΦA spec0 c
  q _ := fullShare
  owed _ := 0

/-- The arrays are what the region finds. -/
theorem A_eq (c : Dev nD) (w : Fin cfg0.W) : (dats m 0 c).A w = V m c (Pipeline.arrRef spec0 w) := by
  dsimp only [dats]

/-- What the body leaves in window 0. -/
theorem after0_0 (c : Dev nD) (t : Fin cfg0.N) : (dats m 0 c).after 0 t = fb0 m c t := by dsimp only [dats]
/-- What the body leaves in window 1. -/
theorem after0_1 (c : Dev nD) (t : Fin cfg0.N) : (dats m 0 c).after 1 t = fb1 m c t := by dsimp only [dats]
/-- What the body leaves in window 2. -/
theorem after0_2 (c : Dev nD) (t : Fin cfg0.N) : (dats m 0 c).after 2 t = fb2 m c t := by dsimp only [dats]
/-- What the body leaves in window 3. -/
theorem after0_3 (c : Dev nD) (t : Fin cfg0.N) : (dats m 0 c).after 3 t = fb3 m c t := by dsimp only [dats]
/-- What the body leaves in window 4. -/
theorem after0_4 (c : Dev nD) (t : Fin cfg0.N) : (dats m 0 c).after 4 t = iblk m c 4 t := by dsimp only [dats]
/-- What the body leaves in window 5. -/
theorem after0_5 (c : Dev nD) (t : Fin cfg0.N) : (dats m 0 c).after 5 t = iblk m c 5 t := by dsimp only [dats]
/-- What the body leaves in window 6. -/
theorem after0_6 (c : Dev nD) (t : Fin cfg0.N) : (dats m 0 c).after 6 t = iblk m c 6 t := by dsimp only [dats]
/-- What the body leaves in window 7. -/
theorem after0_7 (c : Dev nD) (t : Fin cfg0.N) : (dats m 0 c).after 7 t = iblk m c 7 t := by dsimp only [dats]
/-- What the body leaves in window 8. -/
theorem after0_8 (c : Dev nD) (t : Fin cfg0.N) : (dats m 0 c).after 8 t = iblk m c 8 t := by dsimp only [dats]
/-- What the body leaves in window 9. -/
theorem after0_9 (c : Dev nD) (t : Fin cfg0.N) : (dats m 0 c).after 9 t = iblk m c 9 t := by dsimp only [dats]
/-- What the body leaves in window 10. -/
theorem after0_10 (c : Dev nD) (t : Fin cfg0.N) : (dats m 0 c).after 10 t = iblk m c 10 t := by dsimp only [dats]
/-- What the body finds in window 0: the block, over whatever the buffer held past the array's end. -/
theorem before0_0 (c : Dev nD) (t : Fin cfg0.N) (d) : (dats m 0 c).before 0 t d = win0_0.fill (grid0.coords t) d (iblk m c 0 t) := by
  unfold Dat.before; rw [if_pos (fetch0_0 t)]; rfl
/-- What the body finds in window 1: the block, over whatever the buffer held past the array's end. -/
theorem before0_1 (c : Dev nD) (t : Fin cfg0.N) (d) : (dats m 0 c).before 1 t d = win0_1.fill (grid0.coords t) d (iblk m c 1 t) := by
  unfold Dat.before; rw [if_pos (fetch0_1 t)]; rfl
/-- What the body finds in window 2: the block, over whatever the buffer held past the array's end. -/
theorem before0_2 (c : Dev nD) (t : Fin cfg0.N) (d) : (dats m 0 c).before 2 t d = win0_2.fill (grid0.coords t) d (iblk m c 2 t) := by
  unfold Dat.before; rw [if_pos (fetch0_2 t)]; rfl
/-- What the body finds in window 3: the block, over whatever the buffer held past the array's end. -/
theorem before0_3 (c : Dev nD) (t : Fin cfg0.N) (d) : (dats m 0 c).before 3 t d = win0_3.fill (grid0.coords t) d (iblk m c 3 t) := by
  unfold Dat.before; rw [if_pos (fetch0_3 t)]; rfl
/-- What the body finds in window 4: the whole array. -/
theorem before0_4 (c : Dev nD) (t : Fin cfg0.N) (d) : (dats m 0 c).before 4 t d = iblk m c 4 t :=
  before0_4_of m (dats m 0 c) (A_eq m c 4) (after0_4 m c) t d
/-- What the body finds in window 5: the whole array. -/
theorem before0_5 (c : Dev nD) (t : Fin cfg0.N) (d) : (dats m 0 c).before 5 t d = iblk m c 5 t :=
  before0_5_of m (dats m 0 c) (A_eq m c 5) (after0_5 m c) t d
/-- What the body finds in window 6: the whole array. -/
theorem before0_6 (c : Dev nD) (t : Fin cfg0.N) (d) : (dats m 0 c).before 6 t d = iblk m c 6 t :=
  before0_6_of m (dats m 0 c) (A_eq m c 6) (after0_6 m c) t d
/-- What the body finds in window 7: the whole array. -/
theorem before0_7 (c : Dev nD) (t : Fin cfg0.N) (d) : (dats m 0 c).before 7 t d = iblk m c 7 t :=
  before0_7_of m (dats m 0 c) (A_eq m c 7) (after0_7 m c) t d
/-- What the body finds in window 8: the whole array. -/
theorem before0_8 (c : Dev nD) (t : Fin cfg0.N) (d) : (dats m 0 c).before 8 t d = iblk m c 8 t :=
  before0_8_of m (dats m 0 c) (A_eq m c 8) (after0_8 m c) t d
/-- What the body finds in window 9: the whole array. -/
theorem before0_9 (c : Dev nD) (t : Fin cfg0.N) (d) : (dats m 0 c).before 9 t d = iblk m c 9 t :=
  before0_9_of m (dats m 0 c) (A_eq m c 9) (after0_9 m c) t d
/-- What the body finds in window 10: the whole array. -/
theorem before0_10 (c : Dev nD) (t : Fin cfg0.N) (d) : (dats m 0 c).before 10 t d = iblk m c 10 t :=
  before0_10_of m (dats m 0 c) (A_eq m c 10) (after0_10 m c) t d

/-- The windows whose contents are not named: the result's. -/
abbrev fgt : Fin cfg0.W → Bool := fun | 11 => true | _ => false

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ X, owns (c : Thread nD τ) (st0_11 t) fullShare X))

/-- and what it returns. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t))))
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (∃ X, owns (c : Thread nD τ) (st0_11 t) fullShare X))

set_option maxHeartbeats 2000000 in
/-- The body at any point: the triple at what the buffers hold; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10,
    show win0_0.cut (grid0.coords t) (fb0 m c t) = iblk m c 0 t from win0_0.cut_fill _ _ _, show win0_1.cut (grid0.coords t) (fb1 m c t) = iblk m c 1 t from win0_1.cut_fill _ _ _, show win0_2.cut (grid0.coords t) (fb2 m c t) = iblk m c 2 t from win0_2.cut_fill _ _ _, show win0_3.cut (grid0.coords t) (fb3 m c t) = iblk m c 3 t from win0_3.cut_fill _ _ _]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexists d0; iexact H0
  isplitl [H1]; · iexists d1; iexact H1
  isplitl [H2]; · iexists d2; iexact H2
  isplitl [H3]; · iexists d3; iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _; iexact H11

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The body obligation, at every point. -/
theorem body_obligation (c : Dev nD) : BodyObligationLoose (dats m 0 c) (defs₀ (F := F)) Variants.none () Set.univ fgt := fun t => by
  rw [bigSep_W0, bigSep_W0, defs₀_row]
  exact triple_restated (sound_body m c t) rfl .rfl fun _ => .rfl

/-- The buffers the later lines write. -/
def T0 : Finset (Ref sig .tc) := {main_v0}

/-- Every buffer a later line writes is the program's result. -/
theorem sfx_writes : ∀ ops ∈ ([hostOps1] : List (List (HloOp τ sig (Elt F)))), ∀ op ∈ ops,
    ∀ b : Ref sig .tc, Proc.devRef .tc b ∈ op.writes → b ∈ T0 := by
  intro ops hops op hop b hb
  obtain rfl := List.mem_singleton.mp hops
  obtain rfl := List.mem_singleton.mp hop
  rw [StableHlo.unary_writes, Finset.mem_singleton] at hb
  exact Finset.mem_singleton.mpr (Proc.devRef_injective _ hb)

set_option backward.isDefEq.respectTransparency.types false in
/-- The run: every input array as the region finds it, every buffer the later lines do not write too, every counter at zero. -/
theorem run_main : θ_run defs (onTc (τ := τ) (main (F := F))) (s₀ m ρ)
    (fun r => Pipeline.RDat.FramePostR (cfgs 0) (fun c => (dats m 0 c).toRForget fgt) T0 (V m) r ∧ r.2.sem = fun _ => 0) :=
  Pipeline.θ_run_frame_around_T_forget (Q' := _) cfgs (dats m) (0 : Fin 1) launch0 defs₀ Variants.none fgt T0 m ρ main
    (hbody := fun c => body_obligation m c) (hshare := fun c => (dats m 0 c).share_full fun _ => rfl)
    (howed := fun _ _ => rfl) (V₀ := V0 m) (opss := [hostOps1]) sfx_sub sfx_fresh sfx_keeps sfx_writes (hmain m Variants.none)
    (hA := A_eq m) (hΦ := fun _ _ => rfl)

set_option maxHeartbeats 1000000 in
/-- The frame: the arguments end as they were, and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      (Pipeline.RDat.FramePostR.arr_in h.1 c 1 rfl).trans ((A_eq m c 1).trans (V_main_arg1 m c)),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c),
      ((h.1 c).2 main_arg7 (Finset.mem_sdiff.mpr ⟨Pipeline.mem_restRefs_of main_arg7 (by decide) (by decide), by decide⟩)).trans (V_main_arg7 m c),
      ((h.1 c).2 main_arg8 (Finset.mem_sdiff.mpr ⟨Pipeline.mem_restRefs_of main_arg8 (by decide) (by decide), by decide⟩)).trans (V_main_arg8 m c),
      ((h.1 c).2 main_arg9 (Finset.mem_sdiff.mpr ⟨Pipeline.mem_restRefs_of main_arg9 (by decide) (by decide), by decide⟩)).trans (V_main_arg9 m c),
      ((h.1 c).2 main_arg10 (Finset.mem_sdiff.mpr ⟨Pipeline.mem_restRefs_of main_arg10 (by decide) (by decide), by decide⟩)).trans (V_main_arg10 m c),
      ((h.1 c).2 main_arg11 (Finset.mem_sdiff.mpr ⟨Pipeline.mem_restRefs_of main_arg11 (by decide) (by decide), by decide⟩)).trans (V_main_arg11 m c)⟩, h.2⟩) (run_main m ρ)

end Cert.Proof.KB

end
-- ==== Proof.IdealBody.lean ====
/-
  The body of `KernelIdeal`'s one region (untrusted, hand-written): what one grid point's block of the result is, as a function of the
  eleven input blocks, and the triple that the body leaves it, each input block unread by anything else.
-/
module

public import proofs.«01_k».proof.Proof.Gen.KernelIdeal.Frame
public import proofs.«01_k».proof.Proof.Gen.KernelIdeal.Skeleton
public import Idealize.ShloMosaic.Lib.Claim
public import Idealize.ShloMosaic.Lib.Pipeline.ValueKit.Basic

@[expose] public section

set_option maxRecDepth 16384

noncomputable section

namespace Cert.Proof.IB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The bilinear sum of every node of the block: the fifty products, added one after the other. -/
abbrev bil (v5 : FVec F S2800x1024 .f32) (v14 : FVec F S50x1024 .f32) (v43 v45 v46 : FVec F S50x1024 .f32) (x4 : Vec F S32x1024 .f32)
    (x3 : Vec F S50x31x1024 .f32) : FVec F S50x1024 .f32 :=
  let v103 := k0_pay7 v5 v14 v43 v45 v46
  let v163 := k0_pay10 v5 v14 v103 (k0_pay8 v5) (k0_pay9 v14)
  let v223 := k0_pay13 v5 v14 v163 (k0_pay11 v5) (k0_pay12 v14)
  k0_pay18 v5 v14 v223 (k0_pay14 v5) (k0_pay15 v14) x4 x3

/-- The block of the result the body stores, from the contents of its eleven input blocks. -/
def out (x1 : Vec F S50x1024 .f32) (x2 : Vec F S1024x128 .f32) (x3 : Vec F S50x31x1024 .f32) (x4 : Vec F S32x1024 .f32) (x5 : Vec F S2800x50 .bf16) (x6 : Vec F S50x128 .bf16) (x7 : Vec F S50x1 .f32) (x8 : Vec F S50x50 .bf16) (x9 : Vec F S50x2 .bf16) (x10 : Vec F S1x50 .bf16) (x11 : Vec F S1x1 .f32) : Vec F S1x1024 .f32 :=
  k0_pay1 (bil (k0_pay2 x1 x5) (k0_pay3 x2 x6 x7) (k0_pay4 x1 x5 x2 x6 x7) (k0_pay5 x1 x5) (k0_pay6 x2 x6 x7) x4 x3) (k0_pay19 x4)
    x8 x9 x10 x11

abbrev r1 : Rect S50x1024 := Rect.unit (s := S50x1024) ![0, 0] S50x1024.size inb_S50x1024_S50x1024_0_0
abbrev r2 : Rect S1024x128 := Rect.unit (s := S1024x128) ![0, 0] S1024x128.size inb_S1024x128_S1024x128_0_0
abbrev r3 : Rect S50x31x1024 := Rect.unit (s := S50x31x1024) ![0, 0, 0] S50x31x1024.size inb_S50x31x1024_S50x31x1024_0_0_0
abbrev r4 : Rect S32x1024 := Rect.unit (s := S32x1024) ![0, 0] S32x1024.size inb_S32x1024_S32x1024_0_0
abbrev r5 : Rect S2800x50 := Rect.unit (s := S2800x50) ![0, 0] S2800x50.size inb_S2800x50_S2800x50_0_0
abbrev r6 : Rect S50x128 := Rect.unit (s := S50x128) ![0, 0] S50x128.size inb_S50x128_S50x128_0_0
abbrev r7 : Rect S50x1 := Rect.unit (s := S50x1) ![0, 0] S50x1.size inb_S50x1_S50x1_0_0
abbrev r8 : Rect S50x50 := Rect.unit (s := S50x50) ![0, 0] S50x50.size inb_S50x50_S50x50_0_0
abbrev r9 : Rect S50x2 := Rect.unit (s := S50x2) ![0, 0] S50x2.size inb_S50x2_S50x2_0_0
abbrev r10 : Rect S1x50 := Rect.unit (s := S1x50) ![0, 0] S1x50.size inb_S1x50_S1x50_0_0
abbrev r11 : Rect S1x1 := Rect.unit (s := S1x1) ![0, 0] S1x1.size inb_S1x1_S1x1_0_0
abbrev r12 : Rect S1x1024 := Rect.unit (s := S1x1024) ![0, 0] S1x1024.size inb_S1x1024_S1x1024_0_0

/-- The same block through the loads and the store as the body spells them: whole blocks. -/
def outRaw (x1 : Vec F S50x1024 .f32) (x2 : Vec F S1024x128 .f32) (x3 : Vec F S50x31x1024 .f32) (x4 : Vec F S32x1024 .f32) (x5 : Vec F S2800x50 .bf16) (x6 : Vec F S50x128 .bf16) (x7 : Vec F S50x1 .f32) (x8 : Vec F S50x50 .bf16) (x9 : Vec F S50x2 .bf16) (x10 : Vec F S1x50 .bf16) (x11 : Vec F S1x1 .f32) : Vec F S1x1024 .f32 :=
  View.canon [⟨r12, out (View.ld x1 r1) (View.ld x2 r2) (View.ld x3 r3) (View.ld x4 r4) (View.ld x5 r5) (View.ld x6 r6) (View.ld x7 r7) (View.ld x8 r8) (View.ld x9 r9) (View.ld x10 r10) (View.ld x11 r11)⟩]

/-- Every load and the store is of the whole block. -/
theorem outRaw_eq (x1 : Vec F S50x1024 .f32) (x2 : Vec F S1024x128 .f32) (x3 : Vec F S50x31x1024 .f32) (x4 : Vec F S32x1024 .f32) (x5 : Vec F S2800x50 .bf16) (x6 : Vec F S50x128 .bf16) (x7 : Vec F S50x1 .f32) (x8 : Vec F S50x50 .bf16) (x9 : Vec F S50x2 .bf16) (x10 : Vec F S1x50 .bf16) (x11 : Vec F S1x1 .f32) : outRaw x1 x2 x3 x4 x5 x6 x7 x8 x9 x10 x11 = out x1 x2 x3 x4 x5 x6 x7 x8 x9 x10 x11 := by
  unfold outRaw
  refine (View.canon_cons_unit_lit _ _ _ (by decide)).trans ?_
  rw [show View.ld x1 r1 = x1 from View.ld_unit_lit _ x1 (by decide), show View.ld x2 r2 = x2 from View.ld_unit_lit _ x2 (by decide), show View.ld x3 r3 = x3 from View.ld_unit_lit _ x3 (by decide), show View.ld x4 r4 = x4 from View.ld_unit_lit _ x4 (by decide), show View.ld x5 r5 = x5 from View.ld_unit_lit _ x5 (by decide), show View.ld x6 r6 = x6 from View.ld_unit_lit _ x6 (by decide), show View.ld x7 r7 = x7 from View.ld_unit_lit _ x7 (by decide), show View.ld x8 r8 = x8 from View.ld_unit_lit _ x8 (by decide), show View.ld x9 r9 = x9 from View.ld_unit_lit _ x9 (by decide), show View.ld x10 r10 = x10 from View.ld_unit_lit _ x10 (by decide), show View.ld x11 r11 = x11 from View.ld_unit_lit _ x11 (by decide)]

/-- The one store covers the block of the result. -/
theorem cover12 (p0 : Vec F S1x1024 .f32) (y : S1x1024.Idx) : ∃ p ∈ ([⟨r12, p0⟩] : List (View.Piece (Elt F) S1x1024 .f32)), y ∈ p.1.set :=
  View.cover_of_tiled [⟨r12, p0⟩] S1x1024.size (by rfl) y

set_option maxHeartbeats 4000000 in
/-- The body's triple on any whole buffers: the inputs come back as they were, and the result's buffer holds the stored block. -/
theorem sound_kernel (c : Dev nD) (E : Set ℕ) (i : grid0.Coords) (arg1 : Memref sig .tc .vmem S50x1024 .f32) (harg1 : arg1.IsWhole) (arg2 : Memref sig .tc .vmem S1024x128 .f32) (harg2 : arg2.IsWhole) (arg3 : Memref sig .tc .vmem S50x31x1024 .f32) (harg3 : arg3.IsWhole) (arg4 : Memref sig .tc .vmem S32x1024 .f32) (harg4 : arg4.IsWhole) (arg5 : Memref sig .tc .vmem S2800x50 .bf16) (harg5 : arg5.IsWhole) (arg6 : Memref sig .tc .vmem S50x128 .bf16) (harg6 : arg6.IsWhole) (arg7 : Memref sig .tc .vmem S50x1 .f32) (harg7 : arg7.IsWhole) (arg8 : Memref sig .tc .vmem S50x50 .bf16) (harg8 : arg8.IsWhole) (arg9 : Memref sig .tc .vmem S50x2 .bf16) (harg9 : arg9.IsWhole) (arg10 : Memref sig .tc .vmem S1x50 .bf16) (harg10 : arg10.IsWhole) (arg11 : Memref sig .tc .vmem S1x1 .f32) (harg11 : arg11.IsWhole) (arg12 : Memref sig .tc .vmem S1x1024 .f32) (harg12 : arg12.IsWhole)
    (x1 : Vec F S50x1024 .f32) (x2 : Vec F S1024x128 .f32) (x3 : Vec F S50x31x1024 .f32) (x4 : Vec F S32x1024 .f32) (x5 : Vec F S2800x50 .bf16) (x6 : Vec F S50x128 .bf16) (x7 : Vec F S50x1 .f32) (x8 : Vec F S50x50 .bf16) (x9 : Vec F S50x2 .bf16) (x10 : Vec F S1x50 .bf16) (x11 : Vec F S1x1 .f32) (K : PUnit → sProp 𝕄) :
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d)
    ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (out x1 x2 x3 x4 x5 x6 x7 x8 x9 x10 x11)) -∗ K ⟨⟩))
   ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
  rw [← outRaw_eq]
  simp only [cc0__body_eq_skeleton]; unfold cc0__body_skel
  simp only [k0_part1_eq_skeleton, k0_part2_eq_skeleton, k0_part3_eq_skeleton, k0_part4_eq_skeleton, k0_part5_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf1; subst hf2; subst hf3; subst hf4; subst hf5; subst hf6; subst hf7; subst hf8; subst hf9; subst hf10; subst hf11
  sl_exec
  sl_step
  iapply Hk
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [H9]
  · iexists f9; isplitr
    · ipureintro; rfl
    · iexact H9
  isplitl [H10]
  · iexists f10; isplitr
    · ipureintro; rfl
    · iexact H10
  isplitl [H11]
  · iexists f11; isplitr
    · ipureintro; rfl
    · iexact H11
  iexists _; isplitr; swap
  · iexact H12
  ipureintro
  exact View.read_writes_eq_canon _ _ _ (cover12 _)

end Cert.Proof.IB

end
-- ==== Proof.Formula.lean ====
/-
  The two formulas of one node's score (untrusted, hand-written), over the exact numbers and with no program in sight.
-/
module

public import Idealize.ShloMosaic.PureOps.Ideal.Laws

@[expose] public section

noncomputable section

namespace Cert.Proof.Formula

open Idealize.ShloMosaic

/-- A component of the projected entity. -/
def entv (We : Fin 50 → Fin 128 → EReal) (be : Fin 50 → EReal) (e : Fin 128 → EReal) (j : Fin 50) : EReal :=
  (∑ k, We j k * e k) + be j

/-- The activation: the number itself above zero, its exponential less one below. -/
def elu (x : EReal) : EReal := if 0 < x then x else Ideal.exp x - 1

/-- The kernel's score of a node: the neighbours' texts are summed before the projection, and the two biases come in by their own product. -/
def kernelLane (B2 : Fin 2800 → Fin 50 → EReal) (We : Fin 50 → Fin 128 → EReal) (be : Fin 50 → EReal) (Wg : Fin 50 → Fin 50 → EReal)
    (Wx : Fin 50 → Fin 2 → EReal) (Wr : Fin 50 → EReal) (br : EReal)
    (q : Fin 50 → EReal) (e : Fin 128 → EReal) (p : Fin 50 → Fin 31 → EReal) (s : Fin 32 → EReal) : EReal :=
  (∑ o, Wr o * elu ((∑ d : Fin 50, Wg o d * ((∑ k : Fin 31, p d k * s (k.castLE (by decide)))
      + s 31 * ∑ j : Fin 50, entv We be e j * ∑ i, B2 ⟨56 * j.val + d.val, by have := d.isLt; have := j.isLt; omega⟩ i * q i))
    + (Wx o 0 * s 31 + Wx o 1 * 1))) + br

/-- The node's own text before its bias: the bilinear form of its query and its entity. -/
def nodev (B : Fin 50 → Fin 50 → Fin 50 → EReal) (We : Fin 50 → Fin 128 → EReal) (be : Fin 50 → EReal)
    (q : Fin 50 → EReal) (e : Fin 128 → EReal) (d : Fin 50) : EReal :=
  ∑ j, (∑ i, q i * B d i j) * ((∑ k, e k * We j k) + be j)

/-- The texts of a node: its neighbours' thirty-one, then its own. -/
def text (B : Fin 50 → Fin 50 → Fin 50 → EReal) (We : Fin 50 → Fin 128 → EReal) (be bb : Fin 50 → EReal)
    (q : Fin 50 → EReal) (e : Fin 128 → EReal) (p : Fin 31 → Fin 50 → EReal) (k : Fin 32) (d : Fin 50) : EReal :=
  if h : k.val < 31 then p ⟨k.val, h⟩ d else nodev B We be q e d + bb d

/-- The reference's score of a node: every text is projected, weighted and summed. -/
def refLane (B : Fin 50 → Fin 50 → Fin 50 → EReal) (We : Fin 50 → Fin 128 → EReal) (be bb : Fin 50 → EReal)
    (Wg : Fin 50 → Fin 50 → EReal) (gb Wr : Fin 50 → EReal) (br : EReal)
    (q : Fin 50 → EReal) (e : Fin 128 → EReal) (p : Fin 31 → Fin 50 → EReal) (s : Fin 32 → EReal) : EReal :=
  (∑ o, elu ((∑ k : Fin 32, (∑ d, text B We be bb q e p k d * Wg o d) * s k) + gb o) * Wr o) + br

/-- A number that is neither infinity. -/
def IsReal (x : EReal) : Prop := ∃ r : ℝ, x = (r : EReal)

/-- A real number distributes over a sum of which one term is real, whatever the other. -/
theorem add_mul_real (a c : ℝ) (x : EReal) : ((a : EReal) + x) * (c : EReal) = (a : EReal) * c + x * c := by
  induction x with
  | bot =>
    rw [EReal.add_bot, ← EReal.coe_mul]
    rcases lt_trichotomy c 0 with h | h | h
    · rw [EReal.bot_mul_coe_of_neg h]; rfl
    · subst h; simp
    · rw [EReal.bot_mul_coe_of_pos h]; rfl
  | coe x => norm_cast; ring
  | top =>
    rw [EReal.coe_add_top, ← EReal.coe_mul]
    rcases lt_trichotomy c 0 with h | h | h
    · rw [EReal.top_mul_coe_of_neg h]; rfl
    · subst h; simp
    · rw [EReal.top_mul_coe_of_pos h]; rfl

/-- A finite sum of real numbers, as an extended real. -/
theorem coe_sum {n : ℕ} (f : Fin n → ℝ) : ((∑ i, f i : ℝ) : EReal) = ∑ i, (f i : EReal) := by
  induction n with
  | zero => simp
  | succ n ih => rw [Fin.sum_univ_succ, Fin.sum_univ_succ, EReal.coe_add, ih]

/-- What the activation is taken of, in the two programs, once the node's own text is a real number. -/
theorem inner_eq (nv : Fin 50 → ℝ) (Wg : Fin 50 → ℝ) (p : Fin 31 → Fin 50 → ℝ) (s : Fin 32 → ℝ) (bb : Fin 50 → EReal) (gb : EReal)
    (t : Fin 32 → Fin 50 → EReal) (ht : ∀ (k : Fin 31) d, t k.castSucc d = p k d) (hl : ∀ d, t (Fin.last 31) d = nv d + bb d) :
    (∑ d : Fin 50, (Wg d : EReal) * ((∑ k : Fin 31, (p k d : EReal) * (s k.castSucc : EReal)) + (s (Fin.last 31) : EReal) * (nv d : EReal)))
        + ((∑ d, (Wg d : EReal) * bb d) * (s (Fin.last 31) : EReal) + gb * 1)
      = (∑ k : Fin 32, (∑ d, t k d * (Wg d : EReal)) * (s k : EReal)) + gb := by
  have e1 : (∑ d : Fin 50, (Wg d : EReal) * ((∑ k : Fin 31, (p k d : EReal) * (s k.castSucc : EReal)) + (s (Fin.last 31) : EReal) * (nv d : EReal)))
      = ((∑ d, Wg d * ((∑ k : Fin 31, p k d * s k.castSucc) + s (Fin.last 31) * nv d) : ℝ) : EReal) := by
    rw [coe_sum]
    refine Finset.sum_congr rfl fun d _ => ?_
    rw [EReal.coe_mul, EReal.coe_add, coe_sum, EReal.coe_mul]
    simp only [EReal.coe_mul]
  have e2 : (∑ k : Fin 31, (∑ d, t k.castSucc d * (Wg d : EReal)) * (s k.castSucc : EReal))
      = ((∑ k : Fin 31, (∑ d, p k d * Wg d) * s k.castSucc : ℝ) : EReal) := by
    rw [coe_sum]
    refine Finset.sum_congr rfl fun k _ => ?_
    rw [EReal.coe_mul, coe_sum]
    simp only [EReal.coe_mul, ht]
  have e3 : (∑ d, t (Fin.last 31) d * (Wg d : EReal)) = ((∑ d, nv d * Wg d : ℝ) : EReal) + ∑ d, (Wg d : EReal) * bb d := by
    rw [coe_sum, ← Finset.sum_add_distrib]
    refine Finset.sum_congr rfl fun d _ => ?_
    rw [hl, add_mul_real, EReal.coe_mul, mul_comm (bb d)]
  rw [e1, Fin.sum_univ_castSucc (n := 31), e2, e3, add_mul_real, mul_one, ← EReal.coe_mul, ← add_assoc, ← add_assoc, ← EReal.coe_add]
  refine congrArg (fun r : ℝ => (r : EReal) + _ + gb) ?_
  simp only [mul_add, Finset.sum_add_distrib, Finset.mul_sum, Finset.sum_mul]
  rw [Finset.sum_comm]
  refine congrArg₂ (· + ·) (Finset.sum_congr rfl fun k _ => Finset.sum_congr rfl fun d _ => by ring) (Finset.sum_congr rfl fun d _ => by ring)

/-- The two scores of a node are the same number when what the products multiply is real. -/
theorem lane_eq (B : Fin 50 → Fin 50 → Fin 50 → EReal) (B2 : Fin 2800 → Fin 50 → EReal) (We : Fin 50 → Fin 128 → EReal) (be bb : Fin 50 → EReal)
    (Wg : Fin 50 → Fin 50 → EReal) (Wx : Fin 50 → Fin 2 → EReal) (gb Wr : Fin 50 → EReal) (br : EReal)
    (q : Fin 50 → EReal) (e : Fin 128 → EReal) (p : Fin 31 → Fin 50 → EReal) (s : Fin 32 → EReal)
    (hB2 : ∀ (j d i : Fin 50) (h : 56 * j.val + d.val < 2800), B2 ⟨56 * j.val + d.val, h⟩ i = B d i j)
    (hW0 : ∀ o, Wx o 0 = ∑ d, Wg o d * bb d) (hW1 : ∀ o, Wx o 1 = gb o)
    (hB : ∀ d i j, IsReal (B d i j)) (hWe : ∀ j k, IsReal (We j k)) (hbe : ∀ j, IsReal (be j)) (hWg : ∀ o d, IsReal (Wg o d))
    (hq : ∀ i, IsReal (q i)) (he : ∀ k, IsReal (e k)) (hp : ∀ k d, IsReal (p k d)) (hs : ∀ k, IsReal (s k)) :
    kernelLane B2 We be Wg Wx Wr br q e (fun d k => p k d) s = refLane B We be bb Wg gb Wr br q e p s := by
  choose B' hB' using hB
  choose We' hWe' using hWe
  choose be' hbe' using hbe
  choose Wg' hWg' using hWg
  choose q' hq' using hq
  choose e' he' using he
  choose p' hp' using hp
  choose s' hs' using hs
  have hn : ∀ d, nodev B We be q e d = ((∑ j, (∑ i, q' i * B' d i j) * ((∑ k, e' k * We' j k) + be' j) : ℝ) : EReal) := fun d => by
    unfold nodev
    rw [coe_sum]
    refine Finset.sum_congr rfl fun j _ => ?_
    rw [EReal.coe_mul, EReal.coe_add, coe_sum, coe_sum]
    simp only [EReal.coe_mul, hB', hWe', hbe', hq', he']
  have hk : ∀ d : Fin 50, (∑ j : Fin 50, entv We be e j * ∑ i, B2 ⟨56 * j.val + d.val, by have := d.isLt; have := j.isLt; omega⟩ i * q i)
      = nodev B We be q e d := fun d => by
    unfold nodev entv
    refine Finset.sum_congr rfl fun j _ => ?_
    rw [mul_comm]
    refine congrArg₂ (· * ·) (Finset.sum_congr rfl fun i _ => ?_) (congrArg (· + be j) (Finset.sum_congr rfl fun k _ => mul_comm _ _))
    rw [hB2, mul_comm]
  unfold kernelLane refLane
  refine congrArg (· + br) (Finset.sum_congr rfl fun o _ => ?_)
  rw [mul_comm]
  refine congrArg (elu · * Wr o) ?_
  have hlast : (31 : Fin 32) = Fin.last 31 := rfl
  rw [hW0, hW1]
  simp only [hk, hn, hWg', hp', hs', hlast]
  refine inner_eq _ (Wg' o) p' s' bb (gb o) (text B We be bb q e p) (fun k d => ?_) (fun d => ?_)
  · unfold text
    rw [dif_pos (show k.castSucc.val < 31 from k.isLt), ← hp']
    rfl
  · unfold text
    rw [dif_neg (show ¬ (Fin.last 31).val < 31 from lt_irrefl 31), hn]

end Cert.Proof.Formula

end
-- ==== Proof.Lane.lean ====
/-
  One lane of the result's block (untrusted, hand-written): over the exact numbers, column `n` of what the body stores depends on
  the inputs' blocks only through what they hold for node `n`.
-/
module

public import proofs.«01_k».proof.Proof.IdealBody
public import proofs.«01_k».proof.Proof.Formula
public import Idealize.ShloMosaic.Lib.MatmulPlain
public import Idealize.ShloMosaic.Lib.ValueIdx
public import Idealize.ShloMosaic.Lib.ValueLayout
public import Idealize.ShloMosaic.PureOps.Ideal.Laws

@[expose] public section

set_option maxRecDepth 16384

noncomputable section

namespace Cert.Proof.IB

open Cert.KernelIdeal Cert.KernelIdeal.Gen
open Idealize.ShloMosaic Idealize.ShloMosaic.TcCoe Idealize.ShloMosaic.ValueIdx

/-! ## The layout operations of the body, read at an index -/

/-- The column of a matrix product at a zero accumulator. -/
theorem mm_plain {M K N : ℕ} {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (i : Fin M) (n : Fin N) :
    matmul d none l r (constant (F := Ideal) ⟨2, ![M, N]⟩ .f32 0x00000000#32) (ix2 i n) = ∑ k : Fin K, l (ix2 i k) * r (ix2 k n) := by
  subst hd
  show FloatOps.matmul (DotDims.plain M K N) none l r _ (ix2 i n) = _
  rw [Ideal.matmul_plain_apply, ValueIdx.constant_apply, Ideal.ofBits_zero_f32, zero_add]

/-- The same against a right operand read by rows. -/
theorem mm_rows {M K N : ℕ} {φ₁ φ₂ : FTy} (d : DotDims ⟨2, ![M, K]⟩ ⟨2, ![N, K]⟩ ⟨2, ![M, N]⟩) (hd : d = DotDims.transposedRhs M K N)
    (l : FVec Ideal ⟨2, ![M, K]⟩ φ₁) (r : FVec Ideal ⟨2, ![N, K]⟩ φ₂) (i : Fin M) (n : Fin N) :
    matmul d none l r (constant (F := Ideal) ⟨2, ![M, N]⟩ .f32 0x00000000#32) (ix2 i n) = ∑ k : Fin K, l (ix2 i k) * r (ix2 n k) := by
  subst hd
  show FloatOps.matmul (DotDims.transposedRhs M K N) none l r _ (ix2 i n) = _
  rw [Ideal.matmul_transposedRhs_apply, ValueIdx.constant_apply, Ideal.ofBits_zero_f32, zero_add]

/-- A cast of a shape to itself changes nothing. -/
theorem cast_self {s : Shape} {α : Type} (x : s.Idx → α) (h : s.ShapeCasts s) : shapeCast s x h = x :=
  funext fun j => shapeCast_apply x h j j rfl

/-- Rows `a`, `a + 1`, … of a matrix, read at row `d`. -/
theorem rows_apply {A B N : ℕ} {α : Type} (a : ℕ) (x : (⟨2, ![A, N]⟩ : Shape).Idx → α)
    (h : (⟨2, ![A, N]⟩ : Shape).Slices ![a, 0] ⟨2, ![B, N]⟩) (d : Fin B) (n : Fin N) (hlt : a + d.val < A) :
    extractStridedSlice ⟨2, ![B, N]⟩ ![a, 0] x h (ix2 d n) = x (ix2 ⟨a + d.val, hlt⟩ n) := by
  refine extractStridedSlice_apply ![a, 0] x h (ix2 d n) (ix2 ⟨a + d.val, hlt⟩ n) fun ax => ?_
  match ax with
  | ⟨0, _⟩ => rfl
  | ⟨1, _⟩ => exact (Nat.zero_add _).symm

/-- One column broadcast over many. -/
theorem col_apply {A N : ℕ} {α : Type} (x : (⟨2, ![A, 1]⟩ : Shape).Idx → α) (h : (⟨2, ![A, 1]⟩ : Shape).Broadcasts ⟨2, ![A, N]⟩)
    (d : Fin A) (n : Fin N) : broadcastTo ⟨2, ![A, N]⟩ x h (ix2 d n) = x (ix2 d (0 : Fin 1)) := by
  refine broadcastTo_apply x h (ix2 d n) (ix2 d (0 : Fin 1)) fun ax => ?_
  match ax with
  | ⟨0, _⟩ =>
    show d.val = if A = 1 then 0 else d.val
    split
    · have := d.isLt; omega
    · rfl
  | ⟨1, _⟩ => rfl

/-! ## The bilinear sum -/

/-- Term `j` of the bilinear sum at component `d` of node `n`: entity component `j` times row `56 j + d` of the query products. -/
def term (v5 : FVec Ideal S2800x1024 .f32) (v14 : FVec Ideal S50x1024 .f32) (d : Fin 50) (n : Fin 1024) (j : ℕ) : EReal :=
  if h : j < 50 then v14 (ix2 ⟨j, h⟩ n) * v5 (ix2 ⟨56 * j + d.val, by have := d.isLt; omega⟩ n) else 0

/-- One product of the body's chain is one term. -/
theorem term_eq (v5 : FVec Ideal S2800x1024 .f32) (v14 : FVec Ideal S50x1024 .f32) (d : Fin 50) (n : Fin 1024) (j a : ℕ)
    (h1 : S50x1024.Slices ![j, 0] S1x1024) (h2 : S1x1024.Broadcasts S50x1024) (h3 : S2800x1024.Slices ![a, 0] S50x1024)
    (hj : j < 50) (ha : a = 56 * j) :
    broadcastTo S50x1024 (extractStridedSlice S1x1024 ![j, 0] v14 h1) h2 (ix2 d n)
      * extractStridedSlice S50x1024 ![a, 0] v5 h3 (ix2 d n) = term v5 v14 d n j := by
  subst ha
  rw [broadcastTo_1b_ab_apply, rows_apply j v14 h1 0 n hj, rows_apply (56 * j) v5 h3 d n (by have := d.isLt; omega), term, dif_pos hj]
  rfl

set_option maxHeartbeats 2000000 in
/-- The body's fifty products, added in order, are the sum of the terms. -/
theorem chain_eq (x1 : Vec Ideal S50x1024 .f32) (x2 : Vec Ideal S1024x128 .f32) (x5 : Vec Ideal S2800x50 .bf16)
    (x6 : Vec Ideal S50x128 .bf16) (x7 : Vec Ideal S50x1 .f32) (x4 : Vec Ideal S32x1024 .f32) (x3 : Vec Ideal S50x31x1024 .f32)
    (d : Fin 50) (n : Fin 1024) :
    bil (k0_pay2 x1 x5) (k0_pay3 x2 x6 x7) (k0_pay4 x1 x5 x2 x6 x7) (k0_pay5 x1 x5) (k0_pay6 x2 x6 x7) x4 x3 (ix2 d n)
      = multiReduction .add [1] S50x1024 (mulf x3 (broadcastTo S50x31x1024 (shapeCast S1x31x1024
          (extractStridedSlice S31x1024 ![0, 0] x4 slices_S32x1024_o0_0_S31x1024) shapeCasts_S31x1024_S1x31x1024)
            broadcasts_S1x31x1024_S50x31x1024)) 0x00000000#32 reduces_S50x31x1024_S50x1024 (.inl rfl) rfl (ix2 d n)
        + x4 (ix2 (31 : Fin 32) n) * ∑ j ∈ Finset.range 50, term (k0_pay2 x1 x5) (k0_pay3 x2 x6 x7) d n j := by
  unfold bil k0_pay18 k0_pay13 k0_pay10 k0_pay7 k0_pay4 k0_pay5 k0_pay6 k0_pay8 k0_pay9 k0_pay11 k0_pay12 k0_pay14 k0_pay15 k0_pay17 k0_pay16
  simp only [cast_self]
  generalize k0_pay2 x1 x5 = v5
  generalize k0_pay3 x2 x6 x7 = v14
  simp only [ValueIdx.addf_apply, ValueIdx.mulf_apply]
  congr 1
  rw [broadcastTo_1b_ab_apply, rows_apply 31 x4 _ 0 n (by decide)]
  refine congrArg₂ (· * ·) rfl ?_
  simp (disch := decide) only [term_eq v5 v14 d n, Finset.sum_range_succ, Finset.sum_range_zero, zero_add]

/-- The texts of a node's neighbours, weighted by their scores and summed. -/
theorem para_eq (x4 : Vec Ideal S32x1024 .f32) (x3 : Vec Ideal S50x31x1024 .f32) (d : Fin 50) (n : Fin 1024) :
    multiReduction (F := Ideal) (φ := .f32) .add [1] S50x1024 (mulf x3 (broadcastTo S50x31x1024 (shapeCast S1x31x1024
          (extractStridedSlice S31x1024 ![0, 0] x4 slices_S32x1024_o0_0_S31x1024) shapeCasts_S31x1024_S1x31x1024)
            broadcasts_S1x31x1024_S50x31x1024)) 0x00000000#32 reduces_S50x31x1024_S50x1024 (.inl rfl) rfl (ix2 d n)
      = ∑ k : Fin 31, x3 (ix3 d k n) * x4 (ix2 (k.castLE (by decide) : Fin 32) n) := by
  refine (Ideal.multiReduction_add_single _ _ _ _ _ _).trans ?_
  refine Finset.sum_congr rfl fun (k : Fin 31) _ => ?_
  have hl : reduces_S50x31x1024_S50x1024.lift (ix2 d n) k = ix3 d k n := by
    funext a; apply Fin.ext
    match a with | ⟨0, _⟩ => rfl | ⟨1, _⟩ => rfl | ⟨2, _⟩ => rfl
  refine (congrArg _ hl).trans ?_
  rw [ValueIdx.mulf_apply]
  refine congrArg (x3 (ix3 d k n) * ·) ?_
  refine (broadcastTo_apply _ broadcasts_S1x31x1024_S50x31x1024 (ix3 d k n) (ix3 (0 : Fin 1) k n) fun ax => ?_).trans ?_
  · match ax with | ⟨0, _⟩ => rfl | ⟨1, _⟩ => rfl | ⟨2, _⟩ => rfl
  · rw [shapeCast_ab_1ab_apply, rows_apply 0 x4 _ k n (by have := k.isLt; omega)]
    exact congrArg x4 (congrArg (ix2 · n) (Fin.ext (Nat.zero_add _)))

/-- The number the pattern of one stands for. -/
theorem one_f32 : Ideal.ofBits .f32 0x3F800000#32 = 1 :=
  IdealRules.sign_bit.ideal_onePat .f32

/-- The activation as the body spells it. -/
theorem elu_eq (x : EReal) :
    Scalar.select (Ideal.cmp .ogt x 0) x (Ideal.exp (min x 0) - 1) = Formula.elu x := by
  unfold Formula.elu
  by_cases h : 0 < x
  · rw [if_pos h, show Ideal.cmp .ogt x 0 = 1#1 from by simp [Ideal.cmp, h]]; rfl
  · rw [if_neg h, show Ideal.cmp .ogt x 0 = 0#1 from by simp [Ideal.cmp, h], min_eq_left (not_lt.mp h)]; rfl

set_option maxHeartbeats 1000000 in
/-- Lane `n` of the stored block is the kernel's score of what the blocks hold for node `n`. -/
theorem out_apply (x1 : Vec Ideal S50x1024 .f32) (x2 : Vec Ideal S1024x128 .f32) (x3 : Vec Ideal S50x31x1024 .f32)
    (x4 : Vec Ideal S32x1024 .f32) (x5 : Vec Ideal S2800x50 .bf16) (x6 : Vec Ideal S50x128 .bf16) (x7 : Vec Ideal S50x1 .f32)
    (x8 : Vec Ideal S50x50 .bf16) (x9 : Vec Ideal S50x2 .bf16) (x10 : Vec Ideal S1x50 .bf16) (x11 : Vec Ideal S1x1 .f32) (n : Fin 1024) :
    out x1 x2 x3 x4 x5 x6 x7 x8 x9 x10 x11 (ix2 (0 : Fin 1) n)
      = Formula.kernelLane (fun r i => x5 (ix2 r i)) (fun j k => x6 (ix2 j k)) (fun j => x7 (ix2 j (0 : Fin 1)))
          (fun o d => x8 (ix2 o d)) (fun o a => x9 (ix2 o a)) (fun o => x10 (ix2 (0 : Fin 1) o)) (x11 (ix2 (0 : Fin 1) (0 : Fin 1)))
          (fun i => x1 (ix2 i n)) (fun k => x2 (ix2 n k)) (fun d k => x3 (ix3 d k n)) (fun k => x4 (ix2 k n)) := by
  unfold out k0_pay1
  simp only [cast_self]
  rw [ValueIdx.addf_apply, mm_plain dot_S1x50_S50x1024_S1x1024_1_0_0_1_n_n rfl, col_apply]
  unfold Formula.kernelLane
  refine congrArg (· + x11 (ix2 (0 : Fin 1) (0 : Fin 1))) (Finset.sum_congr rfl fun o _ => congrArg (x10 (ix2 (0 : Fin 1) o) * ·) ?_)
  rw [ValueIdx.truncf_apply, ValueIdx.select_apply]
  generalize hx : addf (F := Ideal) (φ := .f32) (matmul (F := Ideal) (φ₁ := .bf16) (φ₂ := .f32) dot_S50x50_S50x1024_S50x1024_1_0_0_1_n_n none x8 _ _) _ = on
  refine Eq.trans (b := Formula.elu (on (ix2 o n))) ?_ (congrArg Formula.elu ?_)
  · rw [← elu_eq, ← Ideal.ofBits_zero_f32, ← one_f32]; rfl
  subst hx
  rw [ValueIdx.addf_apply, mm_plain dot_S50x50_S50x1024_S50x1024_1_0_0_1_n_n rfl, mm_plain dot_S50x2_S2x1024_S50x1024_1_0_0_1_n_n rfl]
  refine congrArg₂ (· + ·) (Finset.sum_congr rfl fun d _ => congrArg (x8 (ix2 o d) * ·) ?_) ?_
  · rw [ValueIdx.truncf_apply, chain_eq, para_eq, Finset.sum_range]
    refine congrArg (_ + ·) (congrArg (x4 (ix2 (31 : Fin 32) n) * ·) (Finset.sum_congr rfl fun j _ => ?_))
    rw [term, dif_pos j.isLt]
    refine congrArg₂ (· * ·) ?_ ?_
    · unfold k0_pay3 Formula.entv
      simp only [cast_self]
      rw [ValueIdx.addf_apply, mm_rows dot_S50x128_S1024x128_S50x1024_1_1_0_0_n_n rfl, col_apply]
      rfl
    · unfold k0_pay2
      simp only [cast_self]
      rw [mm_plain dot_S2800x50_S50x1024_S2800x1024_1_0_0_1_n_n rfl]
      rfl
  · rw [Fin.sum_univ_two]
    refine congrArg₂ (· + ·) (congrArg (x9 (ix2 o (0 : Fin 2)) * ·) ?_) (congrArg (x9 (ix2 o (1 : Fin 2)) * ·) ?_)
    · rw [ValueIdx.truncf_apply]; unfold k0_pay19 k0_pay17 k0_pay16
      simp only [cast_self]
      rw [concatenate_pair_apply_left (t := S2x1024) (s₁ := S1x1024) (s₂ := S1x1024) (0 : Fin 2) _ _ _ (ix2 (0 : Fin 2) n) rfl (ix2 (0 : Fin 1) n) (fun b => by match b with | ⟨0, _⟩ => rfl | ⟨1, _⟩ => rfl),
        rows_apply 31 x4 _ 0 n (by decide)]
      rfl
    · rw [ValueIdx.truncf_apply]; unfold k0_pay19
      rw [concatenate_pair_apply_right (t := S2x1024) (s₁ := S1x1024) (s₂ := S1x1024) (0 : Fin 2) _ _ _ (ix2 (1 : Fin 2) n) rfl rfl (ix2 (0 : Fin 1) n)
        (fun b => by match b with | ⟨0, _⟩ => exact fun h => absurd rfl h | ⟨1, _⟩ => exact fun _ => rfl) rfl]
      exact one_f32

end Cert.Proof.IB

end
-- ==== Proof.Blocks.lean ====
/-
  The input blocks at a lane inside the array (untrusted, hand-written).

  Point `t` carries the nodes 1024*t, 1024*t+1, … ; the last point's blocks overhang the arrays, so what a staging buffer holds
  there past the array's end is arbitrary. Inside the array, each lane is the array's own column.
-/
module

public import proofs.«01_k».proof.Proof.Gen.KernelIdeal.Frame
public import proofs.«01_k».proof.Proof.Lane
public import Idealize.ShloMosaic.Lib.Pipeline.ValueKit.Geometry

@[expose] public section

set_option maxRecDepth 16384

noncomputable section

namespace Cert.Proof.IB

open Cert.KernelIdeal Cert.KernelIdeal.Gen
open Idealize.ShloMosaic Idealize.ShloMosaic.TcCoe Idealize.ShloMosaic.ValueIdx
open Idealize.SL

variable (m : (ℓ : Loc nD τ sig) → Buf (Elt Ideal) ℓ)

/-- Where window 0's block lies at point `t`. -/
theorem index_0 : ∀ t : Fin cfg0.N, win0_0.index t = ![0, t.val] :=
  (by decide +kernel : ∀ t : Fin grid0.N, _)

/-- How many nodes window 0 moves at point `t`. -/
theorem lanes_0 : ∀ t : Fin cfg0.N, win0_0.xsize (grid0.coords t) 1 = min 1024 (50000 - t.val * 1024) :=
  (by decide +kernel : ∀ t : Fin grid0.N, _)

/-- Window 0 moves all of axis 0. -/
theorem whole_0_0 : ∀ t : Fin cfg0.N, win0_0.xsize (grid0.coords t) 0 = 50 :=
  (by decide +kernel : ∀ t : Fin grid0.N, _)

/-- Where window 1's block lies at point `t`. -/
theorem index_1 : ∀ t : Fin cfg0.N, win0_1.index t = ![t.val, 0] :=
  (by decide +kernel : ∀ t : Fin grid0.N, _)

/-- How many nodes window 1 moves at point `t`. -/
theorem lanes_1 : ∀ t : Fin cfg0.N, win0_1.xsize (grid0.coords t) 0 = min 1024 (50000 - t.val * 1024) :=
  (by decide +kernel : ∀ t : Fin grid0.N, _)

/-- Window 1 moves all of axis 1. -/
theorem whole_1_1 : ∀ t : Fin cfg0.N, win0_1.xsize (grid0.coords t) 1 = 128 :=
  (by decide +kernel : ∀ t : Fin grid0.N, _)

/-- Where window 2's block lies at point `t`. -/
theorem index_2 : ∀ t : Fin cfg0.N, win0_2.index t = ![0, 0, t.val] :=
  (by decide +kernel : ∀ t : Fin grid0.N, _)

/-- How many nodes window 2 moves at point `t`. -/
theorem lanes_2 : ∀ t : Fin cfg0.N, win0_2.xsize (grid0.coords t) 2 = min 1024 (50000 - t.val * 1024) :=
  (by decide +kernel : ∀ t : Fin grid0.N, _)

/-- Window 2 moves all of axis 0. -/
theorem whole_2_0 : ∀ t : Fin cfg0.N, win0_2.xsize (grid0.coords t) 0 = 50 :=
  (by decide +kernel : ∀ t : Fin grid0.N, _)

/-- Window 2 moves all of axis 1. -/
theorem whole_2_1 : ∀ t : Fin cfg0.N, win0_2.xsize (grid0.coords t) 1 = 31 :=
  (by decide +kernel : ∀ t : Fin grid0.N, _)

/-- Where window 3's block lies at point `t`. -/
theorem index_3 : ∀ t : Fin cfg0.N, win0_3.index t = ![0, t.val] :=
  (by decide +kernel : ∀ t : Fin grid0.N, _)

/-- How many nodes window 3 moves at point `t`. -/
theorem lanes_3 : ∀ t : Fin cfg0.N, win0_3.xsize (grid0.coords t) 1 = min 1024 (50000 - t.val * 1024) :=
  (by decide +kernel : ∀ t : Fin grid0.N, _)

/-- Window 3 moves all of axis 0. -/
theorem whole_3_0 : ∀ t : Fin cfg0.N, win0_3.xsize (grid0.coords t) 0 = 32 :=
  (by decide +kernel : ∀ t : Fin grid0.N, _)

/-- Where window 11's block lies at point `t`. -/
theorem index_11 : ∀ t : Fin cfg0.N, win0_11.index t = ![0, t.val] :=
  (by decide +kernel : ∀ t : Fin grid0.N, _)

/-- How many nodes window 11 moves at point `t`. -/
theorem lanes_11 : ∀ t : Fin cfg0.N, win0_11.xsize (grid0.coords t) 1 = min 1024 (50000 - t.val * 1024) :=
  (by decide +kernel : ∀ t : Fin grid0.N, _)

/-- Window 11 moves all of axis 0. -/
theorem whole_11_0 : ∀ t : Fin cfg0.N, win0_11.xsize (grid0.coords t) 0 = 1 :=
  (by decide +kernel : ∀ t : Fin grid0.N, _)

/-- Lane `n` of window 0's staging buffer at point `t`, the node inside the array: the array's entry. -/
theorem fill_0 (c : Dev nD) (t : Fin cfg0.N) (d0 : Vec Ideal S50x1024 .f32) (i : Fin 50) (n : Fin 1024) (h : t.val * 1024 + n.val < 50000) :
    win0_0.fill (grid0.coords t) d0 (iblk m c 0 t) (ix2 i n) = V m c main_call0_v0 (ix2 i ⟨t.val * 1024 + n.val, h⟩) := by
  have hm : win0_0.moved (grid0.coords t) (ix2 i n) = true := (win0_0.moved_iff _ _).mpr fun a => by
    have := n.isLt
    match a with

    | ⟨0, _⟩ => exact lt_of_lt_of_eq (Fin.isLt _) (whole_0_0 t).symm
    | ⟨1, _⟩ => refine lt_of_lt_of_eq ?_ (lanes_0 t).symm; show n.val < _; omega
  unfold Pipeline.Window.fill
  rw [dif_pos hm]
  have e := index_0 t
  blk_simp [iblk]
  refine congrArg (V m c main_call0_v0) (funext fun a => Fin.ext ?_)
  match a with
  | ⟨0, _⟩ => blk_simp [e]
  | ⟨1, _⟩ => blk_simp [e]

/-- Lane `n` of window 1's staging buffer at point `t`, the node inside the array: the array's entry. -/
theorem fill_1 (c : Dev nD) (t : Fin cfg0.N) (d0 : Vec Ideal S1024x128 .f32) (k : Fin 128) (n : Fin 1024) (h : t.val * 1024 + n.val < 50000) :
    win0_1.fill (grid0.coords t) d0 (iblk m c 1 t) (ix2 n k) = V m c main_arg1 (ix2 ⟨t.val * 1024 + n.val, h⟩ k) := by
  have hm : win0_1.moved (grid0.coords t) (ix2 n k) = true := (win0_1.moved_iff _ _).mpr fun a => by
    have := n.isLt
    match a with

    | ⟨0, _⟩ => refine lt_of_lt_of_eq ?_ (lanes_1 t).symm; show n.val < _; omega
    | ⟨1, _⟩ => exact lt_of_lt_of_eq (Fin.isLt _) (whole_1_1 t).symm
  unfold Pipeline.Window.fill
  rw [dif_pos hm]
  have e := index_1 t
  blk_simp [iblk]
  refine congrArg (V m c main_arg1) (funext fun a => Fin.ext ?_)
  match a with
  | ⟨0, _⟩ => blk_simp [e]
  | ⟨1, _⟩ => blk_simp [e]

/-- Lane `n` of window 2's staging buffer at point `t`, the node inside the array: the array's entry. -/
theorem fill_2 (c : Dev nD) (t : Fin cfg0.N) (d0 : Vec Ideal S50x31x1024 .f32) (d : Fin 50) (k : Fin 31) (n : Fin 1024) (h : t.val * 1024 + n.val < 50000) :
    win0_2.fill (grid0.coords t) d0 (iblk m c 2 t) (ix3 d k n) = V m c main_call0_v2 (ix3 d k ⟨t.val * 1024 + n.val, h⟩) := by
  have hm : win0_2.moved (grid0.coords t) (ix3 d k n) = true := (win0_2.moved_iff _ _).mpr fun a => by
    have := n.isLt
    match a with

    | ⟨0, _⟩ => exact lt_of_lt_of_eq (Fin.isLt _) (whole_2_0 t).symm
    | ⟨1, _⟩ => exact lt_of_lt_of_eq (Fin.isLt _) (whole_2_1 t).symm
    | ⟨2, _⟩ => refine lt_of_lt_of_eq ?_ (lanes_2 t).symm; show n.val < _; omega
  unfold Pipeline.Window.fill
  rw [dif_pos hm]
  have e := index_2 t
  blk_simp [iblk]
  refine congrArg (V m c main_call0_v2) (funext fun a => Fin.ext ?_)
  match a with
  | ⟨0, _⟩ => blk_simp [e]
  | ⟨1, _⟩ => blk_simp [e]
  | ⟨2, _⟩ => blk_simp [e]

/-- Lane `n` of window 3's staging buffer at point `t`, the node inside the array: the array's entry. -/
theorem fill_3 (c : Dev nD) (t : Fin cfg0.N) (d0 : Vec Ideal S32x1024 .f32) (k : Fin 32) (n : Fin 1024) (h : t.val * 1024 + n.val < 50000) :
    win0_3.fill (grid0.coords t) d0 (iblk m c 3 t) (ix2 k n) = V m c main_call0_v1 (ix2 k ⟨t.val * 1024 + n.val, h⟩) := by
  have hm : win0_3.moved (grid0.coords t) (ix2 k n) = true := (win0_3.moved_iff _ _).mpr fun a => by
    have := n.isLt
    match a with

    | ⟨0, _⟩ => exact lt_of_lt_of_eq (Fin.isLt _) (whole_3_0 t).symm
    | ⟨1, _⟩ => refine lt_of_lt_of_eq ?_ (lanes_3 t).symm; show n.val < _; omega
  unfold Pipeline.Window.fill
  rw [dif_pos hm]
  have e := index_3 t
  blk_simp [iblk]
  refine congrArg (V m c main_call0_v1) (funext fun a => Fin.ext ?_)
  match a with
  | ⟨0, _⟩ => blk_simp [e]
  | ⟨1, _⟩ => blk_simp [e]

/-- Where window 4's block lies: it is the whole array. -/
theorem index_4 : ∀ t : Fin cfg0.N, win0_4.index t = ![0, 0] :=
  (by decide +kernel : ∀ t : Fin grid0.N, _)

/-- Window 4's block at any point is its array. -/
theorem iblk_4 (c : Dev nD) (t : Fin cfg0.N) : (iblk m c 4 t : Vec Ideal S2800x50 .bf16) = V m c main_call0_v10 := by
  funext j
  have e := index_4 t
  blk_simp [iblk]
  refine congrArg (V m c main_call0_v10) (funext fun a => Fin.ext ?_)
  match a with
  | ⟨0, _⟩ => blk_simp [e]
  | ⟨1, _⟩ => blk_simp [e]

/-- Where window 5's block lies: it is the whole array. -/
theorem index_5 : ∀ t : Fin cfg0.N, win0_5.index t = ![0, 0] :=
  (by decide +kernel : ∀ t : Fin grid0.N, _)

/-- Window 5's block at any point is its array. -/
theorem iblk_5 (c : Dev nD) (t : Fin cfg0.N) : (iblk m c 5 t : Vec Ideal S50x128 .bf16) = V m c main_call0_v11 := by
  funext j
  have e := index_5 t
  blk_simp [iblk]
  refine congrArg (V m c main_call0_v11) (funext fun a => Fin.ext ?_)
  match a with
  | ⟨0, _⟩ => blk_simp [e]
  | ⟨1, _⟩ => blk_simp [e]

/-- Where window 6's block lies: it is the whole array. -/
theorem index_6 : ∀ t : Fin cfg0.N, win0_6.index t = ![0, 0] :=
  (by decide +kernel : ∀ t : Fin grid0.N, _)

/-- Window 6's block at any point is its array. -/
theorem iblk_6 (c : Dev nD) (t : Fin cfg0.N) : (iblk m c 6 t : Vec Ideal S50x1 .f32) = V m c main_call0_v12 := by
  funext j
  have e := index_6 t
  blk_simp [iblk]
  refine congrArg (V m c main_call0_v12) (funext fun a => Fin.ext ?_)
  match a with
  | ⟨0, _⟩ => blk_simp [e]
  | ⟨1, _⟩ => blk_simp [e]

/-- Where window 7's block lies: it is the whole array. -/
theorem index_7 : ∀ t : Fin cfg0.N, win0_7.index t = ![0, 0] :=
  (by decide +kernel : ∀ t : Fin grid0.N, _)

/-- Window 7's block at any point is its array. -/
theorem iblk_7 (c : Dev nD) (t : Fin cfg0.N) : (iblk m c 7 t : Vec Ideal S50x50 .bf16) = V m c main_call0_v13 := by
  funext j
  have e := index_7 t
  blk_simp [iblk]
  refine congrArg (V m c main_call0_v13) (funext fun a => Fin.ext ?_)
  match a with
  | ⟨0, _⟩ => blk_simp [e]
  | ⟨1, _⟩ => blk_simp [e]

/-- Where window 8's block lies: it is the whole array. -/
theorem index_8 : ∀ t : Fin cfg0.N, win0_8.index t = ![0, 0] :=
  (by decide +kernel : ∀ t : Fin grid0.N, _)

/-- Window 8's block at any point is its array. -/
theorem iblk_8 (c : Dev nD) (t : Fin cfg0.N) : (iblk m c 8 t : Vec Ideal S50x2 .bf16) = V m c main_call0_v14 := by
  funext j
  have e := index_8 t
  blk_simp [iblk]
  refine congrArg (V m c main_call0_v14) (funext fun a => Fin.ext ?_)
  match a with
  | ⟨0, _⟩ => blk_simp [e]
  | ⟨1, _⟩ => blk_simp [e]

/-- Where window 9's block lies: it is the whole array. -/
theorem index_9 : ∀ t : Fin cfg0.N, win0_9.index t = ![0, 0] :=
  (by decide +kernel : ∀ t : Fin grid0.N, _)

/-- Window 9's block at any point is its array. -/
theorem iblk_9 (c : Dev nD) (t : Fin cfg0.N) : (iblk m c 9 t : Vec Ideal S1x50 .bf16) = V m c main_call0_v15 := by
  funext j
  have e := index_9 t
  blk_simp [iblk]
  refine congrArg (V m c main_call0_v15) (funext fun a => Fin.ext ?_)
  match a with
  | ⟨0, _⟩ => blk_simp [e]
  | ⟨1, _⟩ => blk_simp [e]

/-- Where window 10's block lies: it is the whole array. -/
theorem index_10 : ∀ t : Fin cfg0.N, win0_10.index t = ![0, 0] :=
  (by decide +kernel : ∀ t : Fin grid0.N, _)

/-- Window 10's block at any point is its array. -/
theorem iblk_10 (c : Dev nD) (t : Fin cfg0.N) : (iblk m c 10 t : Vec Ideal S1x1 .f32) = V m c main_call0_v16 := by
  funext j
  have e := index_10 t
  blk_simp [iblk]
  refine congrArg (V m c main_call0_v16) (funext fun a => Fin.ext ?_)
  match a with
  | ⟨0, _⟩ => blk_simp [e]
  | ⟨1, _⟩ => blk_simp [e]

/-- The kernel's score of node `g`, read off the arrays as the region finds them. -/
def score (c : Dev nD) (g : Fin 50000) : EReal :=
  Formula.kernelLane (fun r i => V m c main_call0_v10 (ix2 r i)) (fun j k => V m c main_call0_v11 (ix2 j k))
    (fun j => V m c main_call0_v12 (ix2 j (0 : Fin 1))) (fun o d => V m c main_call0_v13 (ix2 o d))
    (fun o a => V m c main_call0_v14 (ix2 o a)) (fun o => V m c main_call0_v15 (ix2 (0 : Fin 1) o))
    (V m c main_call0_v16 (ix2 (0 : Fin 1) (0 : Fin 1)))
    (fun i => V m c main_call0_v0 (ix2 i g)) (fun k => V m c main_arg1 (ix2 g k))
    (fun d k => V m c main_call0_v2 (ix3 d k g)) (fun k => V m c main_call0_v1 (ix2 k g))

/-- Lane `n` of what point `t` stores, the node inside the arrays: the node's score, whatever lay past the arrays' end. -/
theorem out_lane (c : Dev nD) (t : Fin cfg0.N) (d0 : Vec Ideal S50x1024 .f32) (d1 : Vec Ideal S1024x128 .f32)
    (d2 : Vec Ideal S50x31x1024 .f32) (d3 : Vec Ideal S32x1024 .f32) (n : Fin 1024) (h : t.val * 1024 + n.val < 50000) :
    out (win0_0.fill (grid0.coords t) d0 (iblk m c 0 t)) (win0_1.fill (grid0.coords t) d1 (iblk m c 1 t))
        (win0_2.fill (grid0.coords t) d2 (iblk m c 2 t)) (win0_3.fill (grid0.coords t) d3 (iblk m c 3 t))
        (iblk m c 4 t) (iblk m c 5 t) (iblk m c 6 t) (iblk m c 7 t) (iblk m c 8 t) (iblk m c 9 t) (iblk m c 10 t) (ix2 (0 : Fin 1) n)
      = score m c ⟨t.val * 1024 + n.val, h⟩ := by
  rw [iblk_4, iblk_5, iblk_6, iblk_7, iblk_8, iblk_9, iblk_10, out_apply]
  unfold score
  have e0 := fun i => fill_0 m c t d0 i n h
  have e1 := fun k => fill_1 m c t d1 k n h
  have e2 := fun d k => fill_2 m c t d2 d k n h
  have e3 := fun k => fill_3 m c t d3 k n h
  congr 1
  · exact funext e0
  · exact funext e1
  · exact funext fun d => funext (e2 d)
  · exact funext e3

/-- A moved index of the result's window is a lane whose node is inside the array. -/
theorem xinj_11 (t : Fin cfg0.N) (j : (win0_11.xblock (grid0.coords t)).Idx) :
    ∃ n : Fin 1024, win0_11.xinj (grid0.coords t) j = ix2 (0 : Fin 1) n ∧ t.val * 1024 + n.val < 50000 ∧ (j 1).val = n.val := by
  have hj : (j 1).val < min 1024 (50000 - t.val * 1024) := lt_of_lt_of_eq (j 1).isLt (lanes_11 t)
  have h0 : (j 0).val < 1 := lt_of_lt_of_eq (j 0).isLt (whole_11_0 t)
  refine ⟨⟨(j 1).val, by omega⟩, funext fun a => Fin.ext ?_, ?_, rfl⟩
  · match a with
    | ⟨0, _⟩ => show (j 0).val = 0; omega
    | ⟨1, _⟩ => rfl
  · show t.val * 1024 + (j 1).val < 50000; omega

/-- What point `t` writes back is the same whatever lay past the arrays' end. -/
theorem cut_out (c : Dev nD) (t : Fin cfg0.N) (d0 d0' : Vec Ideal S50x1024 .f32) (d1 d1' : Vec Ideal S1024x128 .f32)
    (d2 d2' : Vec Ideal S50x31x1024 .f32) (d3 d3' : Vec Ideal S32x1024 .f32) :
    win0_11.cut (grid0.coords t) (out (win0_0.fill (grid0.coords t) d0 (iblk m c 0 t)) (win0_1.fill (grid0.coords t) d1 (iblk m c 1 t))
        (win0_2.fill (grid0.coords t) d2 (iblk m c 2 t)) (win0_3.fill (grid0.coords t) d3 (iblk m c 3 t))
        (iblk m c 4 t) (iblk m c 5 t) (iblk m c 6 t) (iblk m c 7 t) (iblk m c 8 t) (iblk m c 9 t) (iblk m c 10 t))
      = win0_11.cut (grid0.coords t) (out (win0_0.fill (grid0.coords t) d0' (iblk m c 0 t)) (win0_1.fill (grid0.coords t) d1' (iblk m c 1 t))
        (win0_2.fill (grid0.coords t) d2' (iblk m c 2 t)) (win0_3.fill (grid0.coords t) d3' (iblk m c 3 t))
        (iblk m c 4 t) (iblk m c 5 t) (iblk m c 6 t) (iblk m c 7 t) (iblk m c 8 t) (iblk m c 9 t) (iblk m c 10 t)) := by
  funext j
  obtain ⟨n, hn, h, _⟩ := xinj_11 t j
  show out _ _ _ _ _ _ _ _ _ _ _ (win0_11.xinj (grid0.coords t) j) = out _ _ _ _ _ _ _ _ _ _ _ (win0_11.xinj (grid0.coords t) j)
  rw [hn, out_lane m c t d0 d1 d2 d3 n h, out_lane m c t d0' d1' d2' d3' n h]

end Cert.Proof.IB

end
-- ==== Proof.IdealFrame.lean ====
/-
  The run of `KernelIdeal` (untrusted, hand-written): the proof data, which name every lane of the result's blocks that lies in the array, the body obligation, the run and the frame.
-/
module

public import proofs.«01_k».proof.Proof.IdealBody
public import proofs.«01_k».proof.Proof.Blocks

@[expose] public section

set_option maxRecDepth 16384

noncomputable section

namespace Cert.Proof.IB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- Input block 0 at point `t`, its lanes past the array's end filled with anything. -/
def fb0 (c : Dev nD) (t : Fin cfg0.N) : Vec Ideal S50x1024 .f32 :=
  win0_0.fill (grid0.coords t) (View.canon (Val := Elt Ideal) []) (iblk m c 0 t)

/-- Input block 1 at point `t`, its lanes past the array's end filled with anything. -/
def fb1 (c : Dev nD) (t : Fin cfg0.N) : Vec Ideal S1024x128 .f32 :=
  win0_1.fill (grid0.coords t) (View.canon (Val := Elt Ideal) []) (iblk m c 1 t)

/-- Input block 2 at point `t`, its lanes past the array's end filled with anything. -/
def fb2 (c : Dev nD) (t : Fin cfg0.N) : Vec Ideal S50x31x1024 .f32 :=
  win0_2.fill (grid0.coords t) (View.canon (Val := Elt Ideal) []) (iblk m c 2 t)

/-- Input block 3 at point `t`, its lanes past the array's end filled with anything. -/
def fb3 (c : Dev nD) (t : Fin cfg0.N) : Vec Ideal S32x1024 .f32 :=
  win0_3.fill (grid0.coords t) (View.canon (Val := Elt Ideal) []) (iblk m c 3 t)

/-- What point `t` writes back, its input blocks filled past the arrays' end with anything. -/
theorem cut_fb (c : Dev nD) (t : Fin cfg0.N) (d0 : Vec Ideal S50x1024 .f32) (d1 : Vec Ideal S1024x128 .f32)
    (d2 : Vec Ideal S50x31x1024 .f32) (d3 : Vec Ideal S32x1024 .f32) :
    win0_11.cut (grid0.coords t) (out (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (iblk m c 4 t) (iblk m c 5 t) (iblk m c 6 t) (iblk m c 7 t) (iblk m c 8 t) (iblk m c 9 t) (iblk m c 10 t))
      = win0_11.cut (grid0.coords t) (out (fb0 m c t) (fb1 m c t) (fb2 m c t) (fb3 m c t) (iblk m c 4 t) (iblk m c 5 t) (iblk m c 6 t) (iblk m c 7 t) (iblk m c 8 t) (iblk m c 9 t) (iblk m c 10 t)) :=
  cut_out m c t d0 _ d1 _ d2 _ d3 _

/-- The proof data: the arrays as the region finds them, each input block left in place, and the result's block the body's value of them. -/
def dats (_ : Fin 1) (c : Dev nD) : Dat τ (Elt Ideal) Unit ℕ (UR sig nD τ) ℕ cfg0 c where
  A w := V m c (Pipeline.arrRef spec0 w)
  after w t := match w with
    | ⟨0, _⟩ => fb0 m c t
    | ⟨1, _⟩ => fb1 m c t
    | ⟨2, _⟩ => fb2 m c t
    | ⟨3, _⟩ => fb3 m c t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out (fb0 m c t) (fb1 m c t) (fb2 m c t) (fb3 m c t) (iblk m c 4 t) (iblk m c 5 t) (iblk m c 6 t) (iblk m c 7 t) (iblk m c 8 t) (iblk m c 9 t) (iblk m c 10 t)
  Φ _ := Pipeline.ΦA spec0 c
  q _ := fullShare
  owed _ := 0

/-- The arrays are what the region finds. -/
theorem A_eq (c : Dev nD) (w : Fin cfg0.W) : (dats m 0 c).A w = V m c (Pipeline.arrRef spec0 w) := by
  dsimp only [dats]

/-- What the body leaves in window 0. -/
theorem after0_0 (c : Dev nD) (t : Fin cfg0.N) : (dats m 0 c).after 0 t = fb0 m c t := by dsimp only [dats]
/-- What the body leaves in window 1. -/
theorem after0_1 (c : Dev nD) (t : Fin cfg0.N) : (dats m 0 c).after 1 t = fb1 m c t := by dsimp only [dats]
/-- What the body leaves in window 2. -/
theorem after0_2 (c : Dev nD) (t : Fin cfg0.N) : (dats m 0 c).after 2 t = fb2 m c t := by dsimp only [dats]
/-- What the body leaves in window 3. -/
theorem after0_3 (c : Dev nD) (t : Fin cfg0.N) : (dats m 0 c).after 3 t = fb3 m c t := by dsimp only [dats]
/-- What the body leaves in window 4. -/
theorem after0_4 (c : Dev nD) (t : Fin cfg0.N) : (dats m 0 c).after 4 t = iblk m c 4 t := by dsimp only [dats]
/-- What the body leaves in window 5. -/
theorem after0_5 (c : Dev nD) (t : Fin cfg0.N) : (dats m 0 c).after 5 t = iblk m c 5 t := by dsimp only [dats]
/-- What the body leaves in window 6. -/
theorem after0_6 (c : Dev nD) (t : Fin cfg0.N) : (dats m 0 c).after 6 t = iblk m c 6 t := by dsimp only [dats]
/-- What the body leaves in window 7. -/
theorem after0_7 (c : Dev nD) (t : Fin cfg0.N) : (dats m 0 c).after 7 t = iblk m c 7 t := by dsimp only [dats]
/-- What the body leaves in window 8. -/
theorem after0_8 (c : Dev nD) (t : Fin cfg0.N) : (dats m 0 c).after 8 t = iblk m c 8 t := by dsimp only [dats]
/-- What the body leaves in window 9. -/
theorem after0_9 (c : Dev nD) (t : Fin cfg0.N) : (dats m 0 c).after 9 t = iblk m c 9 t := by dsimp only [dats]
/-- What the body leaves in window 10. -/
theorem after0_10 (c : Dev nD) (t : Fin cfg0.N) : (dats m 0 c).after 10 t = iblk m c 10 t := by dsimp only [dats]
/-- What the body leaves in window 11. -/
theorem after0_11 (c : Dev nD) (t : Fin cfg0.N) : (dats m 0 c).after 11 t = out (fb0 m c t) (fb1 m c t) (fb2 m c t) (fb3 m c t) (iblk m c 4 t) (iblk m c 5 t) (iblk m c 6 t) (iblk m c 7 t) (iblk m c 8 t) (iblk m c 9 t) (iblk m c 10 t) := by dsimp only [dats]
/-- What the body finds in window 0: the block, over whatever the buffer held past the array's end. -/
theorem before0_0 (c : Dev nD) (t : Fin cfg0.N) (d) : (dats m 0 c).before 0 t d = win0_0.fill (grid0.coords t) d (iblk m c 0 t) := by
  unfold Dat.before; rw [if_pos (fetch0_0 t)]; rfl
/-- What the body finds in window 1: the block, over whatever the buffer held past the array's end. -/
theorem before0_1 (c : Dev nD) (t : Fin cfg0.N) (d) : (dats m 0 c).before 1 t d = win0_1.fill (grid0.coords t) d (iblk m c 1 t) := by
  unfold Dat.before; rw [if_pos (fetch0_1 t)]; rfl
/-- What the body finds in window 2: the block, over whatever the buffer held past the array's end. -/
theorem before0_2 (c : Dev nD) (t : Fin cfg0.N) (d) : (dats m 0 c).before 2 t d = win0_2.fill (grid0.coords t) d (iblk m c 2 t) := by
  unfold Dat.before; rw [if_pos (fetch0_2 t)]; rfl
/-- What the body finds in window 3: the block, over whatever the buffer held past the array's end. -/
theorem before0_3 (c : Dev nD) (t : Fin cfg0.N) (d) : (dats m 0 c).before 3 t d = win0_3.fill (grid0.coords t) d (iblk m c 3 t) := by
  unfold Dat.before; rw [if_pos (fetch0_3 t)]; rfl
/-- What the body finds in window 4: the whole array. -/
theorem before0_4 (c : Dev nD) (t : Fin cfg0.N) (d) : (dats m 0 c).before 4 t d = iblk m c 4 t :=
  before0_4_of m (dats m 0 c) (A_eq m c 4) (after0_4 m c) t d
/-- What the body finds in window 5: the whole array. -/
theorem before0_5 (c : Dev nD) (t : Fin cfg0.N) (d) : (dats m 0 c).before 5 t d = iblk m c 5 t :=
  before0_5_of m (dats m 0 c) (A_eq m c 5) (after0_5 m c) t d
/-- What the body finds in window 6: the whole array. -/
theorem before0_6 (c : Dev nD) (t : Fin cfg0.N) (d) : (dats m 0 c).before 6 t d = iblk m c 6 t :=
  before0_6_of m (dats m 0 c) (A_eq m c 6) (after0_6 m c) t d
/-- What the body finds in window 7: the whole array. -/
theorem before0_7 (c : Dev nD) (t : Fin cfg0.N) (d) : (dats m 0 c).before 7 t d = iblk m c 7 t :=
  before0_7_of m (dats m 0 c) (A_eq m c 7) (after0_7 m c) t d
/-- What the body finds in window 8: the whole array. -/
theorem before0_8 (c : Dev nD) (t : Fin cfg0.N) (d) : (dats m 0 c).before 8 t d = iblk m c 8 t :=
  before0_8_of m (dats m 0 c) (A_eq m c 8) (after0_8 m c) t d
/-- What the body finds in window 9: the whole array. -/
theorem before0_9 (c : Dev nD) (t : Fin cfg0.N) (d) : (dats m 0 c).before 9 t d = iblk m c 9 t :=
  before0_9_of m (dats m 0 c) (A_eq m c 9) (after0_9 m c) t d
/-- What the body finds in window 10: the whole array. -/
theorem before0_10 (c : Dev nD) (t : Fin cfg0.N) (d) : (dats m 0 c).before 10 t d = iblk m c 10 t :=
  before0_10_of m (dats m 0 c) (A_eq m c 10) (after0_10 m c) t d

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t))))
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (∃ d, owns (c : Thread nD τ) (st0_11 t) fullShare (win0_11.fill (grid0.coords t) d (win0_11.cut (grid0.coords t) ((dats m 0 c).after 11 t)))))

set_option maxHeartbeats 2000000 in
/-- The body at any point: the triple at what the buffers hold; the rest passes through unread. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11,
    show win0_0.cut (grid0.coords t) (fb0 m c t) = iblk m c 0 t from win0_0.cut_fill _ _ _, show win0_1.cut (grid0.coords t) (fb1 m c t) = iblk m c 1 t from win0_1.cut_fill _ _ _, show win0_2.cut (grid0.coords t) (fb2 m c t) = iblk m c 2 t from win0_2.cut_fill _ _ _, show win0_3.cut (grid0.coords t) (fb3 m c t) = iblk m c 3 t from win0_3.cut_fill _ _ _]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexists d0; iexact H0
  isplitl [H1]; · iexists d1; iexact H1
  isplitl [H2]; · iexists d2; iexact H2
  isplitl [H3]; · iexists d3; iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists (out (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (iblk m c 4 t) (iblk m c 5 t) (iblk m c 6 t) (iblk m c 7 t) (iblk m c 8 t) (iblk m c 9 t) (iblk m c 10 t))
  rw [win0_11.fill_congr_cut (grid0.coords t) (cut_fb m c t d0 d1 d2 d3)]
  iexact H11

/-- The body table's row at a point's slots is the body. -/
theorem defs₀_row (t : Fin cfg0.N) :
    defs₀ (F := Ideal) .tc cfg0.body (cfg0.bodyArgs t (cfg0.slots t)) = bodyAt0 t := by
  unfold defs₀; rw [Defs.onTc_tc]

set_option maxHeartbeats 2000000 in
/-- The body obligation, at every point. -/
theorem body_obligation (c : Dev nD) : BodyObligationLoose (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The run: every array at what the proof data compute, every other buffer as the later lines leave it, every counter at zero. -/
theorem run_main : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) sfx_sub sfx_fresh sfx_keeps (hmain m Variants.none)
    (hA := A_eq m) (hΦ := fun _ _ => rfl)

/-- The arguments end as they were. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) ((θ_run defs _ _).mono (fun _ h => h.1) (run_main m ρ))

/-- The frame: the arguments end as they were, and every counter at zero. -/
theorem quiescent : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main m ρ))

end Cert.Proof.IB

end
-- ==== Proof.Value.lean ====
/-
  What the run of `KernelIdeal` leaves in its result (untrusted, hand-written): every entry is its node's score.
-/
module

public import proofs.«01_k».proof.Proof.IdealFrame
public import Idealize.ShloMosaic.Lib.ValueLayout
public import Idealize.ShloMosaic.Lib.StableHlo.RunRead
public import Idealize.ShloMosaic.Lib.Claim
public import Idealize.ShloMosaic.Lib.Pipeline.ValueKit.Geometry

@[expose] public section

set_option maxRecDepth 16384

noncomputable section

namespace Cert.Proof.IB

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The region's result, a row of scores. -/
def row (c : Dev nD) : FVec Ideal S1x50000 .f32 := fun i => score m c (i 1)

/-- The program's result, a column of scores. -/
def col (c : Dev nD) : FVec Ideal S50000x1 .f32 := fun i => score m c (i 0)

/-- After the last point the region's result is the row of scores. -/
theorem arr_row (c : Dev nD) : (dats m 0 c).arrAt 11 cfg0.N = row m c := by
  refine (dats m 0 c).arrAt_eq_of_covers 11 (row m c) (by decide +kernel) fun t hf y => ?_
  have e := index_11 t
  obtain ⟨n, hn, h, hy⟩ := xinj_11 t y
  rw [after0_11]
  refine Eq.trans (b := out (fb0 m c t) (fb1 m c t) (fb2 m c t) (fb3 m c t) (iblk m c 4 t) (iblk m c 5 t) (iblk m c 6 t) (iblk m c 7 t)
    (iblk m c 8 t) (iblk m c 9 t) (iblk m c 10 t) (win0_11.xinj (grid0.coords t) y)) rfl ?_
  rw [hn]
  refine (out_lane m c t _ _ _ _ n h).trans ?_
  unfold row
  refine congrArg (score m c) (Fin.ext ?_)
  show t.val * 1024 + n.val = _
  blk_simp [e]
  omega

/-- The host turns the row into the column. -/
theorem tail_col (c : Dev nD) : Pipeline.afterTail₀ cfgs (dats m) 0 (V0 m) [hostOps1] c main_v0 = col m c := by
  have e : Pipeline.afterTail₀ cfgs (dats m) 0 (V0 m) [hostOps1] c main_v0 = transpose S50000x1 [1, 0] (row m c) transposes_S1x50000_S50000x1_1_0 := by
    unfold Pipeline.afterTail₀
    show StableHlo.after hostOps1 _ (Proc.devRef .tc main_v0) = _
    after_results
    refine congrArg (fun x : FVec Ideal S1x50000 .f32 => transpose S50000x1 [1, 0] x transposes_S1x50000_S50000x1_1_0) ?_
    exact (Pipeline.withArrays_arr spec0 (by decide) c (V0 m c) (fun w => (dats m 0 c).arrAt w cfg0.N) 11).trans (arr_row m c)
  rw [e]
  funext i
  have hi : i = ix2 (i 0) (0 : Fin 1) := funext fun b => by
    match b with
    | ⟨0, _⟩ => rfl
    | ⟨1, _⟩ => exact Subsingleton.elim (α := Fin 1) _ _
  refine (congrArg _ hi).trans ((transpose_apply _ _ _ (ix2 (i 0) (0 : Fin 1)) (ix2 (0 : Fin 1) (i 0)) fun b => ?_).trans rfl)
  match b with
  | ⟨0, _⟩ => rfl
  | ⟨1, _⟩ => rfl

/-- The run: the result is the column of scores and the arguments end as they were. -/
theorem run_value : θ_run defs (onTc (τ := τ) (main (F := Ideal))) ⟨m, fun _ => 0, ρ⟩ (fun r => ∀ c : Dev nD,
      r.2.mem ((c.tc : Thread nD τ).loc main_v0) = col m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine (θ_run defs _ _).mono (fun r h c => ⟨?_, ?_, ?_, ?_, ?_, ?_, ?_, ?_, ?_, ?_, ?_, ?_, ?_⟩) (run_main m ρ)
  · exact ((h.1 c).2 main_v0 (Pipeline.mem_restRefs_of main_v0 (by decide) (by decide))).trans (tail_col m c)
  · exact ((h.1 c).2 main_arg0 (Pipeline.mem_restRefs_of main_arg0 (by decide) (by decide))).trans (W_main_arg0 m (dats m) c)
  · exact ((h.1 c).1 1).trans (((dats m 0 c).arrAt_in 1 rfl _).trans ((A_eq m c 1).trans (V_main_arg1 m c)))
  · exact ((h.1 c).2 main_arg2 (Pipeline.mem_restRefs_of main_arg2 (by decide) (by decide))).trans (W_main_arg2 m (dats m) c)
  · exact ((h.1 c).2 main_arg3 (Pipeline.mem_restRefs_of main_arg3 (by decide) (by decide))).trans (W_main_arg3 m (dats m) c)
  · exact ((h.1 c).2 main_arg4 (Pipeline.mem_restRefs_of main_arg4 (by decide) (by decide))).trans (W_main_arg4 m (dats m) c)
  · exact ((h.1 c).2 main_arg5 (Pipeline.mem_restRefs_of main_arg5 (by decide) (by decide))).trans (W_main_arg5 m (dats m) c)
  · exact ((h.1 c).2 main_arg6 (Pipeline.mem_restRefs_of main_arg6 (by decide) (by decide))).trans (W_main_arg6 m (dats m) c)
  · exact ((h.1 c).2 main_arg7 (Pipeline.mem_restRefs_of main_arg7 (by decide) (by decide))).trans (W_main_arg7 m (dats m) c)
  · exact ((h.1 c).2 main_arg8 (Pipeline.mem_restRefs_of main_arg8 (by decide) (by decide))).trans (W_main_arg8 m (dats m) c)
  · exact ((h.1 c).2 main_arg9 (Pipeline.mem_restRefs_of main_arg9 (by decide) (by decide))).trans (W_main_arg9 m (dats m) c)
  · exact ((h.1 c).2 main_arg10 (Pipeline.mem_restRefs_of main_arg10 (by decide) (by decide))).trans (W_main_arg10 m (dats m) c)
  · exact ((h.1 c).2 main_arg11 (Pipeline.mem_restRefs_of main_arg11 (by decide) (by decide))).trans (W_main_arg11 m (dats m) c)

end Cert.Proof.IB

end
-- ==== Proof.Host.lean ====
/-
  What the region finds in its operands' arrays (untrusted, hand-written): the host operations before the region, read at an index.
-/
module

public import proofs.«01_k».proof.Proof.Gen.KernelIdeal.Frame
public import Idealize.ShloMosaic.Lib.ValueIdx
public import Idealize.ShloMosaic.Lib.ValueLayout
public import Idealize.ShloMosaic.Lib.KernelVsHost
public import Idealize.ShloMosaic.Lib.Pointwise.Reshape
public import Idealize.ShloMosaic.Lib.StableHlo.RunRead
public import Idealize.ShloMosaic.Lib.Claim
public import Idealize.ShloMosaic.PureOps.Ideal.Laws

@[expose] public section

set_option maxRecDepth 16384

noncomputable section

namespace Cert.Proof.IB

open Cert.KernelIdeal Cert.KernelIdeal.Gen
open Idealize.ShloMosaic Idealize.ShloMosaic.TcCoe Idealize.ShloMosaic.ValueIdx
open Idealize.SL

variable (m : (ℓ : Loc nD τ sig) → Buf (Elt Ideal) ℓ) (c : Dev nD)

/-- The queries, transposed. -/
theorem host_v0 (i : Fin 50) (g : Fin 50000) : V m c main_call0_v0 (ValueIdx.ix2 i g) = m ((c : Thread nD τ).loc main_arg0) (ValueIdx.ix2 g i) := by
  have e : V m c main_call0_v0 = transpose S50x50000 [1, 0] (m ((c : Thread nD τ).loc main_arg0)) transposes_S50000x50_S50x50000_1_0 := by
    show StableHlo.after hostOps0 _ (Proc.devRef .tc main_call0_v0) = _
    after_results
    rfl
  rw [e]
  exact transpose_apply _ _ _ _ (ValueIdx.ix2 g i) fun b => by match b with | ⟨0, _⟩ => rfl | ⟨1, _⟩ => rfl

/-- The scores, transposed. -/
theorem host_v1 (k : Fin 32) (g : Fin 50000) : V m c main_call0_v1 (ValueIdx.ix2 k g) = m ((c : Thread nD τ).loc main_arg3) (ValueIdx.ix2 g k) := by
  have e : V m c main_call0_v1 = transpose S32x50000 [1, 0] (m ((c : Thread nD τ).loc main_arg3)) transposes_S50000x32_S32x50000_1_0 := by
    show StableHlo.after hostOps0 _ (Proc.devRef .tc main_call0_v1) = _
    after_results
    rfl
  rw [e]
  exact transpose_apply _ _ _ _ (ValueIdx.ix2 g k) fun b => by match b with | ⟨0, _⟩ => rfl | ⟨1, _⟩ => rfl

/-- The neighbours' texts, transposed. -/
theorem host_v2 (d : Fin 50) (k : Fin 31) (g : Fin 50000) : V m c main_call0_v2 (ValueIdx.ix3 d k g) = m ((c : Thread nD τ).loc main_arg2) (ValueIdx.ix3 g k d) := by
  have e : V m c main_call0_v2 = transpose S50x31x50000 [2, 1, 0] (m ((c : Thread nD τ).loc main_arg2)) transposes_S50000x31x50_S50x31x50000_2_1_0 := by
    show StableHlo.after hostOps0 _ (Proc.devRef .tc main_call0_v2) = _
    after_results
    rfl
  rw [e]
  exact transpose_apply _ _ _ _ (ValueIdx.ix3 g k d) fun b => by match b with | ⟨0, _⟩ => rfl | ⟨1, _⟩ => rfl | ⟨2, _⟩ => rfl

/-- The bilinear weights, one block of fifty-six rows to each entity component, the last six rows of a block padding. -/
theorem host_v10 (j d i : Fin 50) (h : 56 * j.val + d.val < 2800) :
    V m c main_call0_v10 (ValueIdx.ix2 (⟨56 * j.val + d.val, h⟩ : Fin 2800) i) = m ((c : Thread nD τ).loc main_arg6) (ValueIdx.ix3 d i j) := by
  have e : V m c main_call0_v10 = truncf (F := Ideal) (φ := .f32) .bf16 (shapeCast S2800x50 (pad S50x56x50 ![0, 0, 0] ![0, 6, 0] ![0, 0, 0]
      (transpose S50x50x50 [2, 0, 1] (m ((c : Thread nD τ).loc main_arg6)) transposes_S50x50x50_S50x50x50_2_0_1) (sitofp (F := Ideal) .f32 (constantI S_ 32 0#32))
      pads_S50x50x50_S50x56x50_000_060_000 h_S_) shapeCasts_S50x56x50_S2800x50) bitsLt_bf16_f32 := by
    show StableHlo.after hostOps0 _ (Proc.devRef .tc main_call0_v10) = _
    after_results
    rfl
  rw [e]
  rw [ValueIdx.truncf_apply]
  refine (shapeCast_apply _ _ _ (ValueIdx.ix3 j (⟨d.val, by have := d.isLt; omega⟩ : Fin 56) i) ?_).trans ?_
  · rw [rowMajor_val3 _ 2800 50 rfl rfl, rowMajor_val2 _ 50 rfl]
    show j.val * 2800 + d.val * 50 + i.val = (56 * j.val + d.val) * 50 + i.val
    omega
  refine (pad_apply_of_inside _ _ _ _ _ _ _ _ (ValueIdx.ix3 j d i) fun a => ?_).trans ?_
  · match a with
    | ⟨0, _⟩ => show j.val = 0 + j.val * (0 + 1); omega
    | ⟨1, _⟩ => show d.val = 0 + d.val * (0 + 1); omega
    | ⟨2, _⟩ => show i.val = 0 + i.val * (0 + 1); omega
  · exact transpose_apply _ _ _ _ (ValueIdx.ix3 d i j) fun b => by match b with | ⟨0, _⟩ => rfl | ⟨1, _⟩ => rfl | ⟨2, _⟩ => rfl

/-- The entity weights. -/
theorem host_v11 (a : Fin 50) (b : Fin 128) : V m c main_call0_v11 (ValueIdx.ix2 a b) = m ((c : Thread nD τ).loc main_arg4) (ValueIdx.ix2 a b) := by
  have e : V m c main_call0_v11 = truncf (F := Ideal) (φ := .f32) .bf16 (m ((c : Thread nD τ).loc main_arg4)) bitsLt_bf16_f32 := by
    show StableHlo.after hostOps0 _ (Proc.devRef .tc main_call0_v11) = _
    after_results
    rfl
  rw [e]
  rfl

/-- The projection's weights. -/
theorem host_v13 (a b : Fin 50) : V m c main_call0_v13 (ValueIdx.ix2 a b) = m ((c : Thread nD τ).loc main_arg8) (ValueIdx.ix2 a b) := by
  have e : V m c main_call0_v13 = truncf (F := Ideal) (φ := .f32) .bf16 (m ((c : Thread nD τ).loc main_arg8)) bitsLt_bf16_f32 := by
    show StableHlo.after hostOps0 _ (Proc.devRef .tc main_call0_v13) = _
    after_results
    rfl
  rw [e]
  rfl

/-- The ranking weights. -/
theorem host_v15 (a : Fin 1) (b : Fin 50) : V m c main_call0_v15 (ValueIdx.ix2 a b) = m ((c : Thread nD τ).loc main_arg10) (ValueIdx.ix2 a b) := by
  have e : V m c main_call0_v15 = truncf (F := Ideal) (φ := .f32) .bf16 (m ((c : Thread nD τ).loc main_arg10)) bitsLt_bf16_f32 := by
    show StableHlo.after hostOps0 _ (Proc.devRef .tc main_call0_v15) = _
    after_results
    rfl
  rw [e]
  rfl

/-- The entity bias, as a column. -/
theorem host_v12 (j : Fin 50) : V m c main_call0_v12 (ValueIdx.ix2 j (0 : Fin 1)) = m ((c : Thread nD τ).loc main_arg5) (ValueIdx.ix1 j) := by
  have e : V m c main_call0_v12 = broadcastInDim S50x1 ![0] bcast_S50_S50x1_0 (m ((c : Thread nD τ).loc main_arg5)) := by
    show StableHlo.after hostOps0 _ (Proc.devRef .tc main_call0_v12) = _
    after_results
    rfl
  rw [e]
  exact broadcastInDim_apply _ _ _ _ (ValueIdx.ix1 j) fun a => by match a with | ⟨0, _⟩ => rfl

/-- The ranking bias. -/
theorem host_v16 : V m c main_call0_v16 (ValueIdx.ix2 (0 : Fin 1) (0 : Fin 1)) = m ((c : Thread nD τ).loc main_arg11) (ValueIdx.ix1 (0 : Fin 1)) := by
  have e : V m c main_call0_v16 = broadcastInDim S1x1 ![0] bcast_S1_S1x1_0 (m ((c : Thread nD τ).loc main_arg11)) := by
    show StableHlo.after hostOps0 _ (Proc.devRef .tc main_call0_v16) = _
    after_results
    rfl
  rw [e]
  exact broadcastInDim_apply _ _ _ _ (ValueIdx.ix1 (0 : Fin 1)) fun a => by match a with | ⟨0, _⟩ => rfl

/-- A matrix times a vector, at a row. -/
theorem mv_apply (l : FVec Ideal S50x50 .f32) (r : FVec Ideal S50 .f32) (o : Fin 50) :
    Host.dotGeneral dot_S50x50_S50_S50_1_0_0_n_n_n none l r (ValueIdx.ix1 o) = ∑ d : Fin 50, l (ValueIdx.ix2 o d) * r (ValueIdx.ix1 d) := by
  simp only [Host.dotGeneral]
  rw [Ideal.dotGeneral_apply, ← Equiv.sum_comp (ValueIdx.contrEquiv1 dot_S50x50_S50_S50_1_0_0_n_n_n 50 rfl rfl).symm]
  refine Finset.sum_congr rfl fun k _ => ?_
  have hk := ValueIdx.contrEquiv1_symm_val dot_S50x50_S50_S50_1_0_0_n_n_n 50 rfl rfl k
  refine congrArg₂ (· * ·) (congrArg l (funext fun a => Fin.ext ?_)) (congrArg r (funext fun a => Fin.ext ?_))
  · match a with
    | ⟨0, _⟩ => rfl
    | ⟨1, _⟩ => exact hk
  · match a with
    | ⟨0, _⟩ => exact hk

/-- The two bias columns: the bilinear bias through the projection, then the projection's own. -/
theorem host_v14 : V m c main_call0_v14 = truncf (F := Ideal) (φ := .f32) .bf16 (concatenate S50x2 1
    [⟨S50x1, broadcastInDim S50x1 ![0] bcast_S50_S50x1_0 (Host.dotGeneral (F := Ideal) (φ₁ := .f32) (φ₂ := .f32) dot_S50x50_S50_S50_1_0_0_n_n_n none (m ((c : Thread nD τ).loc main_arg8)) (m ((c : Thread nD τ).loc main_arg7)))⟩,
     ⟨S50x1, broadcastInDim S50x1 ![0] bcast_S50_S50x1_0 (m ((c : Thread nD τ).loc main_arg9))⟩] concatenates_S50x1_S50x1_S50x2_d1) bitsLt_bf16_f32 := by
    show StableHlo.after hostOps0 _ (Proc.devRef .tc main_call0_v14) = _
    after_results
    rfl

/-- The projection's weights, as launched. -/
def argWg (o d : Fin 50) : EReal := m ((c : Thread nD τ).loc main_arg8) (ValueIdx.ix2 o d)

/-- The bilinear bias, as launched. -/
def argBb (d : Fin 50) : EReal := m ((c : Thread nD τ).loc main_arg7) (ValueIdx.ix1 d)

/-- The first bias column. -/
theorem host_v14_0 (o : Fin 50) : V m c main_call0_v14 (ValueIdx.ix2 o (0 : Fin 2)) = (∑ d : Fin 50, argWg m c o d * argBb m c d : EReal) := by
  rw [host_v14, ValueIdx.truncf_apply, concatenate_pair_apply_left (t := S50x2) (s₁ := S50x1) (s₂ := S50x1) (1 : Fin 2) _ _ _ (ValueIdx.ix2 o (0 : Fin 2)) rfl
    (ValueIdx.ix2 o (0 : Fin 1)) (fun b => by match b with | ⟨0, _⟩ => rfl | ⟨1, _⟩ => rfl)]
  refine (broadcastInDim_apply _ _ _ _ (ValueIdx.ix1 o) fun a => by match a with | ⟨0, _⟩ => rfl).trans ?_
  exact mv_apply _ _ o

/-- The second bias column. -/
theorem host_v14_1 (o : Fin 50) : V m c main_call0_v14 (ValueIdx.ix2 o (1 : Fin 2)) = m ((c : Thread nD τ).loc main_arg9) (ValueIdx.ix1 o) := by
  rw [host_v14, ValueIdx.truncf_apply, concatenate_pair_apply_right (t := S50x2) (s₁ := S50x1) (s₂ := S50x1) (1 : Fin 2) _ _ _ (ValueIdx.ix2 o (1 : Fin 2)) rfl rfl
    (ValueIdx.ix2 o (0 : Fin 1)) (fun b => by match b with | ⟨0, _⟩ => exact fun _ => rfl | ⟨1, _⟩ => exact fun h => absurd rfl h) rfl]
  exact broadcastInDim_apply _ _ _ _ (ValueIdx.ix1 o) fun a => by match a with | ⟨0, _⟩ => rfl

end Cert.Proof.IB

end
-- ==== Proof.Reference.lean ====
/-
  The reference's result read at a node (untrusted, hand-written): the host program's stages, one after another, are the reference's
  score of Formula.lean.
-/
module

public import proofs.«01_k».proof.Proof.Gen.ReferenceIdeal.Read
public import proofs.«01_k».proof.Proof.Formula
public import Idealize.ShloMosaic.Lib.ValueIdx
public import Idealize.ShloMosaic.PureOps.Ideal.Laws

@[expose] public section

set_option maxRecDepth 16384

noncomputable section

namespace Cert.Proof.RB

open Cert.ReferenceIdeal Cert.ReferenceIdeal.Gen Cert.ReferenceIdeal.Read
open Idealize.ShloMosaic Idealize.ShloMosaic.TcCoe Idealize.ShloMosaic.ValueIdx

/-- Two indices of a matrix with the same coordinates. -/
theorem ext2 {d : Fin 2 → Nat} {i j : (⟨2, d⟩ : Shape).Idx} (h0 : (i 0).val = (j 0).val) (h1 : (i 1).val = (j 1).val) : i = j :=
  funext fun a => Fin.ext (by match a with | ⟨0, _⟩ => exact h0 | ⟨1, _⟩ => exact h1)

/-- Two indices of a rank-three array with the same coordinates. -/
theorem ext3 {d : Fin 3 → Nat} {i j : (⟨3, d⟩ : Shape).Idx} (h0 : (i 0).val = (j 0).val) (h1 : (i 1).val = (j 1).val)
    (h2 : (i 2).val = (j 2).val) : i = j :=
  funext fun a => Fin.ext (by match a with | ⟨0, _⟩ => exact h0 | ⟨1, _⟩ => exact h1 | ⟨2, _⟩ => exact h2)

/-- Two indices of a vector with the same coordinate. -/
theorem ext1 {d : Fin 1 → Nat} {i j : (⟨1, d⟩ : Shape).Idx} (h0 : (i 0).val = (j 0).val) : i = j :=
  funext fun a => Fin.ext (by match a with | ⟨0, _⟩ => exact h0)

variable (x0 : (⟨S50000x50, .f32⟩ : BufTy).Contents (Elt Ideal)) (x1 : (⟨S50000x128, .f32⟩ : BufTy).Contents (Elt Ideal))
  (x2 : (⟨S50000x31x50, .f32⟩ : BufTy).Contents (Elt Ideal)) (x3 : (⟨S50000x32, .f32⟩ : BufTy).Contents (Elt Ideal))
  (x4 : (⟨S50x128, .f32⟩ : BufTy).Contents (Elt Ideal)) (x5 : (⟨S50, .f32⟩ : BufTy).Contents (Elt Ideal))
  (x6 : (⟨S50x50x50, .f32⟩ : BufTy).Contents (Elt Ideal)) (x7 : (⟨S50, .f32⟩ : BufTy).Contents (Elt Ideal))
  (x8 : (⟨S50x50, .f32⟩ : BufTy).Contents (Elt Ideal)) (x9 : (⟨S50, .f32⟩ : BufTy).Contents (Elt Ideal))
  (x10 : (⟨S1x50, .f32⟩ : BufTy).Contents (Elt Ideal)) (x11 : (⟨S1, .f32⟩ : BufTy).Contents (Elt Ideal))

/-- The projected entity of a node. -/
theorem entity (g : Fin 50000) (j : Fin 50) : val_main_v4 (F := Ideal) x1 x4 x5 (ix2 g j)
    = ((∑ k : Fin 128, (fun g k => x1 (ix2 g k) : Fin 50000 → Fin 128 → EReal) g k * (fun j k => x4 (ix2 j k) : Fin 50 → Fin 128 → EReal) j k)
        + (fun j => x5 (ix1 j) : Fin 50 → EReal) j : EReal) := by
  rw [val_main_v4_apply, val_main_v3_apply, val_main_v2_apply, val_main_v1_apply]
  refine congrArg₂ (· + ·) (Finset.sum_congr rfl fun k _ => ?_) (congrArg x5 (ext1 rfl))
  rw [val_main_v0_apply]
  exact congrArg₂ (· * ·) (congrArg x1 (ext2 rfl rfl)) (congrArg x4 (ext2 rfl rfl))

/-- The node's own text before its bias. -/
theorem node (g : Fin 50000) (d : Fin 50) : val_main_v6 (F := Ideal) x0 x1 x4 x5 x6 (ix2 g d)
    = Formula.nodev (fun d i j => x6 (ix3 d i j)) (fun j k => x4 (ix2 j k)) (fun j => x5 (ix1 j)) (fun i => x0 (ix2 g i)) (fun k => x1 (ix2 g k)) d := by
  rw [val_main_v6_apply]
  unfold Formula.nodev
  refine Finset.sum_congr rfl fun j _ => ?_
  rw [show ridx_main_v6 (ix2 g d) j = ix2 g j from ext2 rfl rfl]
  refine congrArg₂ (· * ·) ?_ (entity x1 x4 x5 g j)
  rw [val_main_v5_apply]
  exact Finset.sum_congr rfl fun i _ => congrArg₂ (· * ·) (congrArg x0 (ext2 rfl rfl)) (congrArg x6 (ext3 rfl rfl rfl))

/-- The texts of a node, its neighbours' and its own. -/
theorem texts (g : Fin 50000) (k : Fin 32) (d : Fin 50) : val_main_v11 (F := Ideal) x0 x1 x2 x4 x5 x6 x7 (ix3 g k d)
    = Formula.text (fun d i j => x6 (ix3 d i j)) (fun j k => x4 (ix2 j k)) (fun j => x5 (ix1 j)) (fun d => x7 (ix1 d))
        (fun i => x0 (ix2 g i)) (fun k => x1 (ix2 g k)) (fun k d => x2 (ix3 g k d)) k d := by
  unfold val_main_v11 Formula.text
  by_cases h : k.val < 31
  · rw [dif_pos h, concatenate_pair_apply_left (t := S50000x32x50) (s₁ := S50000x31x50) (s₂ := S50000x1x50) (1 : Fin 3) _ _ _ (ix3 g k d) rfl
      (ix3 g (⟨k.val, h⟩ : Fin 31) d) (fun b => by match b with | ⟨0, _⟩ => rfl | ⟨1, _⟩ => rfl | ⟨2, _⟩ => rfl)]
  · have hk : k.val = 31 := by have := k.isLt; omega
    rw [dif_neg h, concatenate_pair_apply_right (t := S50000x32x50) (s₁ := S50000x31x50) (s₂ := S50000x1x50) (1 : Fin 3) _ _ _ (ix3 g k d) rfl rfl
      (ix3 g (0 : Fin 1) d) (fun b => by match b with | ⟨0, _⟩ => exact fun _ => rfl | ⟨1, _⟩ => exact fun h => absurd rfl h | ⟨2, _⟩ => exact fun _ => rfl)
      (by show 0 + 31 = k.val; omega), val_main_v10_apply, val_main_v9_apply, val_main_v8_apply, val_main_v7_apply]
    rw [show idx_main_v10 (ix3 g (0 : Fin 1) d) = ix2 g d from ext2 rfl rfl]
    exact congrArg₂ (· + ·) (node x0 x1 x4 x5 x6 g d) (congrArg x7 (ext1 rfl))

/-- What the activation is taken of. -/
theorem inner (g : Fin 50000) (o : Fin 50) : val_main_v19 (F := Ideal) x0 x1 x2 x3 x4 x5 x6 x7 x8 x9 (ix2 g o)
    = ((∑ k : Fin 32, (∑ d, Formula.text (fun d i j => x6 (ix3 d i j)) (fun j k => x4 (ix2 j k)) (fun j => x5 (ix1 j)) (fun d => x7 (ix1 d))
        (fun i => x0 (ix2 g i)) (fun k => x1 (ix2 g k)) (fun k d => x2 (ix3 g k d)) k d * (fun o d => x8 (ix2 o d) : Fin 50 → Fin 50 → EReal) o d)
          * (fun k => x3 (ix2 g k) : Fin 32 → EReal) k) + (fun o => x9 (ix1 o) : Fin 50 → EReal) o : EReal) := by
  rw [val_main_v19_apply, val_main_v18_apply, val_main_v17_apply, val_main_v16_apply]
  refine congrArg₂ (· + ·) ?_ (congrArg x9 (ext1 rfl))
  refine (congrArg₂ (· + ·) (Ideal.ofBits_zero_f32 : val_main_cst (F := Ideal) (Shape.Idx.first h_S_) = (0 : EReal)) rfl).trans ?_
  refine (zero_add _).trans (Finset.sum_congr rfl fun k _ => ?_)
  rw [val_main_v15_apply, val_main_v14_apply, val_main_v13_apply, val_main_v12_apply]
  refine congrArg₂ (· * ·) (Finset.sum_congr rfl fun d _ => ?_) (congrArg x3 (ext2 rfl rfl))
  rw [show lidx_main_v12 (idx_main_v16 (ix2 g o) k) d = ix3 g k d from ext3 rfl rfl rfl]
  exact congrArg₂ (· * ·) (texts x0 x1 x2 x4 x5 x6 x7 g k d) (congrArg x8 (ext2 rfl rfl))

/-- The activation as the host spells it. -/
theorem elu_host (x u : EReal) (hu : u = 1) :
    Scalar.select (Ideal.cmp .ogt x 0) x (u * (Ideal.exp (Scalar.select (Ideal.cmp .ogt x 0) 0 x) - 1)) = Formula.elu x := by
  subst hu
  unfold Formula.elu
  by_cases h : 0 < x
  · rw [if_pos h, show Ideal.cmp .ogt x 0 = 1#1 from by simp [Ideal.cmp, h]]; rfl
  · rw [if_neg h, show Ideal.cmp .ogt x 0 = 0#1 from by simp [Ideal.cmp, h], one_mul]; rfl

/-- The activated value. -/
theorem activated (i : S50000x50.Idx) : val_main_v20 (F := Ideal) x0 x1 x2 x3 x4 x5 x6 x7 x8 x9 i
    = Formula.elu (val_main_v19 (F := Ideal) x0 x1 x2 x3 x4 x5 x6 x7 x8 x9 i) := by
  rw [val_main_v20_apply, val_main_call0_v1_apply, val_main_call0_v7_apply, val_main_call0_v6_apply, val_main_call0_v5_apply,
    val_main_call0_v4_apply, val_main_call0_v3_apply, val_main_call0_v2_apply, val_main_call0_v0_apply, val_main_call0_call0_v1_apply,
    val_main_call0_call0_v0_apply, val_main_call0_cst_apply, val_main_call0_cst_0_apply, val_main_call0_cst_1_apply, val_main_call0_cst_2_apply]
  generalize val_main_v19 (F := Ideal) x0 x1 x2 x3 x4 x5 x6 x7 x8 x9 i = x
  rw [← elu_host x _ (IdealRules.sign_bit.ideal_onePat .f32), ← Ideal.ofBits_zero_f32]
  rfl

/-- The reference's result at node `g`. -/
theorem result (g : Fin 50000) : val_main_v25 (F := Ideal) x0 x1 x2 x3 x4 x5 x6 x7 x8 x9 x10 x11 (ix2 g (0 : Fin 1))
    = Formula.refLane (fun d i j => x6 (ix3 d i j)) (fun j k => x4 (ix2 j k)) (fun j => x5 (ix1 j)) (fun d => x7 (ix1 d))
        (fun o d => x8 (ix2 o d)) (fun o => x9 (ix1 o)) (fun o => x10 (ix2 (0 : Fin 1) o)) (x11 (ix1 (0 : Fin 1)))
        (fun i => x0 (ix2 g i)) (fun k => x1 (ix2 g k)) (fun k d => x2 (ix3 g k d)) (fun k => x3 (ix2 g k)) := by
  rw [val_main_v25_apply, val_main_v24_apply, val_main_v23_apply, val_main_v22_apply]
  unfold Formula.refLane
  refine congrArg₂ (· + ·) (Finset.sum_congr rfl fun o _ => ?_) (congrArg x11 (ext1 rfl))
  rw [val_main_v21_apply, activated, show lidx_main_v22 (ix2 g (0 : Fin 1)) o = ix2 g o from ext2 rfl rfl]
  exact congrArg₂ (· * ·) (congrArg Formula.elu (inner x0 x1 x2 x3 x4 x5 x6 x7 x8 x9 g o)) (congrArg x10 (ext2 rfl rfl))

end Cert.Proof.RB

end
-- ==== Proof.Finite.lean ====
/-
  What the precondition says of an entry (untrusted, hand-written): its absolute value lies below infinity, so it is a real number.
-/
module

public import proofs.«01_k».proof.Defs
public import proofs.«01_k».proof.Proof.Gen.Pre_finite_inputs
public import proofs.«01_k».proof.Proof.Formula
public import Idealize.ShloMosaic.Lib.ValueIdx
public import Idealize.ShloMosaic.PureOps.Ideal.Laws

@[expose] public section

set_option maxRecDepth 16384

noncomputable section

namespace Cert.Proof.Finite

open Idealize.ShloMosaic Idealize.ShloMosaic.TcCoe
open Cert.Proof

/-- The pattern the precondition compares against is plus infinity. -/
theorem inf_f32 : Ideal.ofBits .f32 0x7F800000#32 = ⊤ := by
  simp [Ideal.ofBits, Ideal.ieee]

/-- An extended real whose absolute value lies below infinity is a real number. -/
theorem real_of_abs_lt {x : EReal} (h : max x (-x) < ⊤) : Formula.IsReal x := by
  induction x using EReal.rec with
  | bot => simp at h
  | top => simp at h
  | coe r => exact ⟨r, rfl⟩

/-- One conjunct of the precondition, read at an entry. -/
theorem real_of_bit {s : Shape} (b : (⟨0, ![]⟩ : Shape).BroadcastsInDim s (![] : Fin 0 → Fin s.rank)) (x : FVec Ideal s .f32)
    (h : cmpf .olt (Host.absf x) (broadcastInDim s ![] b (constant (F := Ideal) ⟨0, ![]⟩ .f32 0x7F800000#32)) = fun _ => 1#1)
    (i : s.Idx) : Formula.IsReal (x i) := by
  have e : Ideal.cmp .olt (max (x i) (-(x i))) (Ideal.ofBits .f32 0x7F800000#32) = 1#1 := congrFun h i
  rw [inf_f32] at e
  refine real_of_abs_lt ?_
  by_contra hn
  rw [show Ideal.cmp .olt (max (x i) (-(x i))) ⊤ = 0#1 from by simp only [Ideal.cmp, hn, decide_false]; rfl] at e
  exact absurd e (by decide)

open Cert.KernelIdeal in
/-- The precondition of an initial memory, unpacked: the eight arguments it names hold real numbers. -/
theorem reals (m : (ℓ : Loc nD τ sig) → Buf (Elt Ideal) ℓ) (h : Cert.Pre_KernelIdeal_finite_inputs m) (c : Dev nD) :
    (∀ i, Formula.IsReal (m ((c.tc : Thread nD τ).loc main_arg0) i)) ∧ (∀ i, Formula.IsReal (m ((c.tc : Thread nD τ).loc main_arg1) i))
    ∧ (∀ i, Formula.IsReal (m ((c.tc : Thread nD τ).loc main_arg2) i)) ∧ (∀ i, Formula.IsReal (m ((c.tc : Thread nD τ).loc main_arg3) i))
    ∧ (∀ i, Formula.IsReal (m ((c.tc : Thread nD τ).loc main_arg4) i)) ∧ (∀ i, Formula.IsReal (m ((c.tc : Thread nD τ).loc main_arg5) i))
    ∧ (∀ i, Formula.IsReal (m ((c.tc : Thread nD τ).loc main_arg6) i)) ∧ (∀ i, Formula.IsReal (m ((c.tc : Thread nD τ).loc main_arg8) i)) := by
  obtain ⟨h0, h1, h2, h3, h4, h5, h6, h8⟩ := h c
  exact ⟨real_of_bit _ _ h0, real_of_bit _ _ h1, real_of_bit _ _ h2, real_of_bit _ _ h3, real_of_bit _ _ h4, real_of_bit _ _ h5,
    real_of_bit _ _ h6, real_of_bit _ _ h8⟩

end Cert.Proof.Finite

end
-- ==== Proof.Meet.lean ====
/-
  The two programs' results are one (untrusted, hand-written): on finite inputs the kernel's score of a node is the reference's.
-/
module

public import proofs.«01_k».proof.Proof.Value
public import proofs.«01_k».proof.Proof.Host
public import proofs.«01_k».proof.Proof.Reference
public import proofs.«01_k».proof.Proof.Finite
public import proofs.«01_k».proof.Proof.Gen.ReferenceIdeal.Run

@[expose] public section

set_option maxRecDepth 16384

noncomputable section

namespace Cert.Proof.IB

open Cert.KernelIdeal Cert.KernelIdeal.Gen
open Idealize.ShloMosaic Idealize.ShloMosaic.TcCoe
open Idealize.SL Idealize.SL.Sem

variable (m : (ℓ : Loc nD τ sig) → Buf (Elt Ideal) ℓ)

/-- The kernel's score of node `g` is the reference's formula of the argument arrays. -/
theorem score_eq (hm : Cert.Pre_KernelIdeal_finite_inputs m) (c : Dev nD) (g : Fin 50000) :
    score m c g = Formula.refLane (fun d i j => m ((c.tc : Thread nD τ).loc main_arg6) (ValueIdx.ix3 d i j))
      (fun j k => m ((c.tc : Thread nD τ).loc main_arg4) (ValueIdx.ix2 j k)) (fun j => m ((c.tc : Thread nD τ).loc main_arg5) (ValueIdx.ix1 j))
      (argBb m c) (argWg m c) (fun o => m ((c.tc : Thread nD τ).loc main_arg9) (ValueIdx.ix1 o))
      (fun o => m ((c.tc : Thread nD τ).loc main_arg10) (ValueIdx.ix2 (0 : Fin 1) o))
      (m ((c.tc : Thread nD τ).loc main_arg11) (ValueIdx.ix1 (0 : Fin 1)))
      (fun i => m ((c.tc : Thread nD τ).loc main_arg0) (ValueIdx.ix2 g i)) (fun k => m ((c.tc : Thread nD τ).loc main_arg1) (ValueIdx.ix2 g k))
      (fun k d => m ((c.tc : Thread nD τ).loc main_arg2) (ValueIdx.ix3 g k d)) (fun k => m ((c.tc : Thread nD τ).loc main_arg3) (ValueIdx.ix2 g k)) := by
  obtain ⟨h0, h1, h2, h3, h4, h5, h6, h8⟩ := Finite.reals m hm c
  rw [← Formula.lane_eq _ (fun r i => V m c main_call0_v10 (ValueIdx.ix2 r i)) _ _ _ _ (fun o a => V m c main_call0_v14 (ValueIdx.ix2 o a)) _ _ _ _ _ _ _
    (fun j d i h => host_v10 m c j d i h) (fun o => host_v14_0 m c o) (fun o => host_v14_1 m c o)
    (fun d i j => h6 _) (fun j k => h4 _) (fun j => h5 _) (fun o d => h8 _) (fun i => h0 _) (fun k => h1 _) (fun k d => h2 _) (fun k => h3 _)]
  unfold score
  have e0 := fun i => host_v0 m c i g
  have e1 := fun k => host_v1 m c k g
  have e2 := fun d k => host_v2 m c d k g
  have e12 := fun j => host_v12 m c j
  congr 1
  · exact funext e12
  · exact host_v16 m c
  · exact funext e0
  · exact funext fun d => funext fun k => e2 d k
  · exact funext e1

/-- The kernel's column of scores is the reference's result of the same arguments. -/
theorem col_eq (hm : Cert.Pre_KernelIdeal_finite_inputs m) (c : Dev nD) :
    col m c = Cert.ReferenceIdeal.Read.val_main_v25 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) := by
  funext i
  obtain ⟨g, rfl⟩ : ∃ g : Fin 50000, i = ValueIdx.ix2 g (0 : Fin 1) := ⟨i 0, funext fun b => by
    match b with
    | ⟨0, _⟩ => rfl
    | ⟨1, _⟩ => exact Subsingleton.elim (α := Fin 1) _ _⟩
  rw [RB.result]
  exact score_eq m hm c g

end Cert.Proof.IB

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_inputs
public import proofs.«01_k».proof.Proof.Gen.ReferenceIdeal.Run
public import proofs.«01_k».proof.Proof.Gen.ReferenceIdeal.Read
public import proofs.«01_k».proof.Proof.KernelFrame
public import proofs.«01_k».proof.Proof.Meet
public import Idealize.ShloMosaic.Adequacy
public import Idealize.ShloMosaic.Init

@[expose] public section

noncomputable section

namespace Cert.Proof

open Idealize.ShloMosaic Idealize.ShloMosaic.TcCoe Idealize.SL.Sem

/-- The reference's frame: it changes no argument and uses no semaphore. -/
theorem reference_frame : Cert.quiescent_ReferenceIdeal := fun m g _ =>
  (θ_run Cert.ReferenceIdeal.defs _ _).mono
    (fun r h => ⟨fun c => (h c).2, Idealize.ShloMosaic.sem_eq_zero_of_no_sems (by decide) r.2⟩) (Cert.ReferenceIdeal.Value.run (F := Ideal) m g)

/-- On finite inputs the kernel and the reference compute the same scores. -/
theorem same_scores : Cert.algebraic_KernelIdeal_ReferenceIdeal_pre_finite_inputs := by
  intro m g m' g' hm hargs
  refine ⟨IB.col m, IB.run_value m g, (θ_run Cert.ReferenceIdeal.defs _ _).mono (fun r h c => ⟨(h c).1.trans ?_, (h c).2⟩)
    (Cert.ReferenceIdeal.Value.run (F := Ideal) m' g')⟩
  obtain ⟨a0, a1, a2, a3, a4, a5, a6, a7, a8, a9, a10, a11⟩ := hargs c
  rw [Cert.ReferenceIdeal.Read.val_main_v25_eq, a0, a1, a2, a3, a4, a5, a6, a7, a8, a9, a10, a11]
  exact (IB.col_eq m hm c).symm

/-- The certificate's claim. -/
theorem claim : Cert.Claim :=
  ⟨Cert.Kernel.Gen.facts, Cert.KernelIdeal.Gen.facts, Cert.ReferenceIdeal.Gen.facts, Cert.Pre_finite_inputs.Gen.facts,
    fun m g _ => KB.quiescent (F := Bits) m g, fun m g _ => IB.quiescent m g, fun m g _ => IB.quiescent m g,
    reference_frame, fun m g _ => reference_frame m g trivial, trivial, same_scores⟩

end Cert.Proof

end
